-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x200 : Shape := ⟨2, ![1024, 200]⟩
abbrev S129x1 : Shape := ⟨2, ![129, 1]⟩
abbrev S399x1 : Shape := ⟨2, ![399, 1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S129x1 .f32) (main_arg2 : FVec F S399x1 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S129x1 : Shape := ⟨2, ![129, 1]⟩
abbrev S399x1 : Shape := ⟨2, ![399, 1]⟩
abbrev S13 : Shape := ⟨1, ![13]⟩
abbrev S129 : Shape := ⟨1, ![129]⟩
abbrev S399 : Shape := ⟨1, ![399]⟩
abbrev S200x1024 : Shape := ⟨2, ![200, 1024]⟩
abbrev S199x1024 : Shape := ⟨2, ![199, 1024]⟩
abbrev S1x1024 : Shape := ⟨2, ![1, 1024]⟩
abbrev S_ : Shape := ⟨0, ![]⟩
abbrev S9 : Shape := ⟨1, ![9]⟩
abbrev S408 : Shape := ⟨1, ![408]⟩
abbrev S400 : Shape := ⟨1, ![400]⟩
abbrev S1x400 : Shape := ⟨2, ![1, 400]⟩
abbrev S8x400 : Shape := ⟨2, ![8, 400]⟩
abbrev S8x400x1 : Shape := ⟨3, ![8, 400, 1]⟩
abbrev S200x200x1024 : Shape := ⟨3, ![200, 200, 1024]⟩
abbrev S8x1024 : Shape := ⟨2, ![8, 1024]⟩
abbrev S8x200x1024 : Shape := ⟨3, ![8, 200, 1024]⟩
abbrev S1x8x1 : Shape := ⟨3, ![1, 8, 1]⟩
abbrev S8x1 : Shape := ⟨2, ![8, 1]⟩
abbrev S1 : Shape := ⟨1, ![1]⟩
abbrev S1x8x1024 : Shape := ⟨3, ![1, 8, 1024]⟩
abbrev S1024x200x200 : Shape := ⟨3, ![1024, 200, 200]⟩
abbrev S1024x1x200x200 : Shape := ⟨4, ![1024, 1, 200, 200]⟩

abbrev nBuf : Space → Nat
  | .hbm => 34
  | .vmem => 6
  | .smem => 2
  | _ => 0

abbrev bufTy : (tb : Table) → Fin (tcTables nBuf tb) → BufTy
  | .hbm, ⟨0, _⟩ => ⟨S1024x200, .i32⟩
  | .hbm, ⟨1, _⟩ => ⟨S129x1, .f32⟩
  | .hbm, ⟨2, _⟩ => ⟨S399x1, .f32⟩
  | .hbm, ⟨3, _⟩ => ⟨S13, .i32⟩
  | .hbm, ⟨4, _⟩ => ⟨S129, .f32⟩
  | .hbm, ⟨5, _⟩ => ⟨S399, .f32⟩
  | .hbm, ⟨6, _⟩ => ⟨S200x1024, .i32⟩
  | .hbm, ⟨7, _⟩ => ⟨S199x1024, .i32⟩
  | .hbm, ⟨8, _⟩ => ⟨S1x1024, .i32⟩
  | .hbm, ⟨9, _⟩ => ⟨S200x1024, .i32⟩
  | .hbm, ⟨10, _⟩ => ⟨S_, .f32⟩
  | .hbm, ⟨11, _⟩ => ⟨S9, .f32⟩
  | .hbm, ⟨12, _⟩ => ⟨S408, .f32⟩
  | .hbm, ⟨13, _⟩ => ⟨S400, .f32⟩
  | .hbm, ⟨14, _⟩ => ⟨S400, .f32⟩
  | .hbm, ⟨15, _⟩ => ⟨S400, .f32⟩
  | .hbm, ⟨16, _⟩ => ⟨S400, .f32⟩
  | .hbm, ⟨17, _⟩ => ⟨S400, .f32⟩
  | .hbm, ⟨18, _⟩ => ⟨S400, .f32⟩
  | .hbm, ⟨19, _⟩ => ⟨S400, .f32⟩
  | .hbm, ⟨20, _⟩ => ⟨S400, .f32⟩
  | .hbm, ⟨21, _⟩ => ⟨S1x400, .f32⟩
  | .hbm, ⟨22, _⟩ => ⟨S1x400, .f32⟩
  | .hbm, ⟨23, _⟩ => ⟨S1x400, .f32⟩
  | .hbm, ⟨24, _⟩ => ⟨S1x400, .f32⟩
  | .hbm, ⟨25, _⟩ => ⟨S1x400, .f32⟩
  | .hbm, ⟨26, _⟩ => ⟨S1x400, .f32⟩
  | .hbm, ⟨27, _⟩ => ⟨S1x400, .f32⟩
  | .hbm, ⟨28, _⟩ => ⟨S1x400, .f32⟩
  | .hbm, ⟨29, _⟩ => ⟨S8x400, .f32⟩
  | .hbm, ⟨30, _⟩ => ⟨S8x400x1, .f32⟩
  | .hbm, ⟨31, _⟩ => ⟨S200x200x1024, .f32⟩
  | .hbm, ⟨32, _⟩ => ⟨S1024x200x200, .f32⟩
  | .hbm, ⟨33, _⟩ => ⟨S1024x1x200x200, .f32⟩
  | .local _ .vmem, ⟨0, _⟩ => ⟨S200x1024, .i32⟩
  | .local _ .vmem, ⟨1, _⟩ => ⟨S8x1024, .i32⟩
  | .local _ .vmem, ⟨2, _⟩ => ⟨S8x1024, .i32⟩
  | .local _ .vmem, ⟨3, _⟩ => ⟨S8x400x1, .f32⟩
  | .local _ .vmem, ⟨4, _⟩ => ⟨S8x200x1024, .f32⟩
  | .local _ .vmem, ⟨5, _⟩ => ⟨S8x200x1024, .f32⟩
  | .local _ .smem, ⟨0, _⟩ => ⟨S13, .i32⟩
  | .local _ .smem, ⟨1, _⟩ => ⟨S129, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_mult1 (i : grid0.Coords) : BitVec 32 :=
  let c199_i32 : BitVec 32 := 199#32
  let arg0 : BitVec 32 := BitVec.ofNat 32 (i 0).val
  let c8_i32 : BitVec 32 := 8#32
  let v0 : BitVec 32 := Scalar.muli arg0 c8_i32
  let c0_i32 : BitVec 32 := 0#32
  let v17 : BitVec 32 := Scalar.addi v0 c0_i32
  let v18 : BitVec 32 := Scalar.subi c199_i32 v17
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c8_i32_8 : BitVec 32 := 8#32
  let c0_i32_11 : BitVec 32 := 0#32
  let v25 : BitVec 1 := Scalar.cmpi .sgt c8_i32_8 c0_i32_11
  let v26 : BitVec 32 := Scalar.extui v25
  let c0_i32_12 : BitVec 32 := 0#32
  let v27 : BitVec 1 := Scalar.cmpi .slt c8_i32_8 c0_i32_12
  let v28 : BitVec 32 := Scalar.extui v27
  let v29 : BitVec 32 := Scalar.subi v26 v28
  let v30 : BitVec 1 := Scalar.cmpi .ne v24 v29
  let v31 : BitVec 32 := Scalar.remsi v18 c8_i32_8
  let c0_i32_13 : BitVec 32 := 0#32
  let v32 : BitVec 1 := Scalar.cmpi .ne v31 c0_i32_13
  let v33 : BitVec 1 := Scalar.andi v30 v32
  let v19 : BitVec 32 := Scalar.divsi v18 c8_i32_8
  let c1_i32 : BitVec 32 := 1#32
  let v34 : BitVec 32 := Scalar.subi v19 c1_i32
  let v35 : BitVec 32 := Scalar.select v33 v34 v19
  let c8_i32_14 : BitVec 32 := 8#32
  let v36 : BitVec 32 := Scalar.muli v35 c8_i32_14
  v36
def k0_mult2 (i : grid0.Coords) : BitVec 32 :=
  let c199_i32_16 : BitVec 32 := 199#32
  let arg0 : BitVec 32 := BitVec.ofNat 32 (i 0).val
  let c8_i32 : BitVec 32 := 8#32
  let v0 : BitVec 32 := Scalar.muli arg0 c8_i32
  let c1_i32_15 : BitVec 32 := 1#32
  let v39 : BitVec 32 := Scalar.addi v0 c1_i32_15
  let v40 : BitVec 32 := Scalar.subi c199_i32_16 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c8_i32_17 : BitVec 32 := 8#32
  let c0_i32_20 : BitVec 32 := 0#32
  let v47 : BitVec 1 := Scalar.cmpi .sgt c8_i32_17 c0_i32_20
  let v48 : BitVec 32 := Scalar.extui v47
  let c0_i32_21 : BitVec 32 := 0#32
  let v49 : BitVec 1 := Scalar.cmpi .slt c8_i32_17 c0_i32_21
  let v50 : BitVec 32 := Scalar.extui v49
  let v51 : BitVec 32 := Scalar.subi v48 v50
  let v52 : BitVec 1 := Scalar.cmpi .ne v46 v51
  let v53 : BitVec 32 := Scalar.remsi v40 c8_i32_17
  let c0_i32_22 : BitVec 32 := 0#32
  let v54 : BitVec 1 := Scalar.cmpi .ne v53 c0_i32_22
  let v55 : BitVec 1 := Scalar.andi v52 v54
  let v41 : BitVec 32 := Scalar.divsi v40 c8_i32_17
  let c1_i32_23 : BitVec 32 := 1#32
  let v56 : BitVec 32 := Scalar.subi v41 c1_i32_23
  let v57 : BitVec 32 := Scalar.select v55 v56 v41
  let c8_i32_24 : BitVec 32 := 8#32
  let v58 : BitVec 32 := Scalar.muli v57 c8_i32_24
  v58
def k0_mult3 (i : grid0.Coords) : BitVec 32 :=
  let c199_i32_25 : BitVec 32 := 199#32
  let arg0 : BitVec 32 := BitVec.ofNat 32 (i 0).val
  let c8_i32 : BitVec 32 := 8#32
  let v0 : BitVec 32 := Scalar.muli arg0 c8_i32
  let c2_i32 : BitVec 32 := 2#32
  let v61 : BitVec 32 := Scalar.addi v0 c2_i32
  let v62 : BitVec 32 := Scalar.subi c199_i32_25 v61
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c8_i32_26 : BitVec 32 := 8#32
  let c0_i32_29 : BitVec 32 := 0#32
  let v69 : BitVec 1 := Scalar.cmpi .sgt c8_i32_26 c0_i32_29
  let v70 : BitVec 32 := Scalar.extui v69
  let c0_i32_30 : BitVec 32 := 0#32
  let v71 : BitVec 1 := Scalar.cmpi .slt c8_i32_26 c0_i32_30
  let v72 : BitVec 32 := Scalar.extui v71
  let v73 : BitVec 32 := Scalar.subi v70 v72
  let v74 : BitVec 1 := Scalar.cmpi .ne v68 v73
  let v75 : BitVec 32 := Scalar.remsi v62 c8_i32_26
  let c0_i32_31 : BitVec 32 := 0#32
  let v76 : BitVec 1 := Scalar.cmpi .ne v75 c0_i32_31
  let v77 : BitVec 1 := Scalar.andi v74 v76
  let v63 : BitVec 32 := Scalar.divsi v62 c8_i32_26
  let c1_i32_32 : BitVec 32 := 1#32
  let v78 : BitVec 32 := Scalar.subi v63 c1_i32_32
  let v79 : BitVec 32 := Scalar.select v77 v78 v63
  let c8_i32_33 : BitVec 32 := 8#32
  let v80 : BitVec 32 := Scalar.muli v79 c8_i32_33
  v80
def k0_mult4 (i : grid0.Coords) : BitVec 32 :=
  let c199_i32_34 : BitVec 32 := 199#32
  let arg0 : BitVec 32 := BitVec.ofNat 32 (i 0).val
  let c8_i32 : BitVec 32 := 8#32
  let v0 : BitVec 32 := Scalar.muli arg0 c8_i32
  let c3_i32 : BitVec 32 := 3#32
  let v83 : BitVec 32 := Scalar.addi v0 c3_i32
  let v84 : BitVec 32 := Scalar.subi c199_i32_34 v83
  let c0_i32_36 : BitVec 32 := 0#32
  let v86 : BitVec 1 := Scalar.cmpi .sgt v84 c0_i32_36
  let v87 : BitVec 32 := Scalar.extui v86
  let c0_i32_37 : BitVec 32 := 0#32
  let v88 : BitVec 1 := Scalar.cmpi .slt v84 c0_i32_37
  let v89 : BitVec 32 := Scalar.extui v88
  let v90 : BitVec 32 := Scalar.subi v87 v89
  let c8_i32_35 : BitVec 32 := 8#32
  let c0_i32_38 : BitVec 32 := 0#32
  let v91 : BitVec 1 := Scalar.cmpi .sgt c8_i32_35 c0_i32_38
  let v92 : BitVec 32 := Scalar.extui v91
  let c0_i32_39 : BitVec 32 := 0#32
  let v93 : BitVec 1 := Scalar.cmpi .slt c8_i32_35 c0_i32_39
  let v94 : BitVec 32 := Scalar.extui v93
  let v95 : BitVec 32 := Scalar.subi v92 v94
  let v96 : BitVec 1 := Scalar.cmpi .ne v90 v95
  let v97 : BitVec 32 := Scalar.remsi v84 c8_i32_35
  let c0_i32_40 : BitVec 32 := 0#32
  let v98 : BitVec 1 := Scalar.cmpi .ne v97 c0_i32_40
  let v99 : BitVec 1 := Scalar.andi v96 v98
  let v85 : BitVec 32 := Scalar.divsi v84 c8_i32_35
  let c1_i32_41 : BitVec 32 := 1#32
  let v100 : BitVec 32 := Scalar.subi v85 c1_i32_41
  let v101 : BitVec 32 := Scalar.select v99 v100 v85
  let c8_i32_42 : BitVec 32 := 8#32
  let v102 : BitVec 32 := Scalar.muli v101 c8_i32_42
  v102
def k0_mult5 (i : grid0.Coords) : BitVec 32 :=
  let c199_i32_43 : BitVec 32 := 199#32
  let arg0 : BitVec 32 := BitVec.ofNat 32 (i 0).val
  let c8_i32 : BitVec 32 := 8#32
  let v0 : BitVec 32 := Scalar.muli arg0 c8_i32
  let c4_i32 : BitVec 32 := 4#32
  let v105 : BitVec 32 := Scalar.addi v0 c4_i32
  let v106 : BitVec 32 := Scalar.subi c199_i32_43 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c8_i32_44 : BitVec 32 := 8#32
  let c0_i32_47 : BitVec 32 := 0#32
  let v113 : BitVec 1 := Scalar.cmpi .sgt c8_i32_44 c0_i32_47
  let v114 : BitVec 32 := Scalar.extui v113
  let c0_i32_48 : BitVec 32 := 0#32
  let v115 : BitVec 1 := Scalar.cmpi .slt c8_i32_44 c0_i32_48
  let v116 : BitVec 32 := Scalar.extui v115
  let v117 : BitVec 32 := Scalar.subi v114 v116
  let v118 : BitVec 1 := Scalar.cmpi .ne v112 v117
  let v119 : BitVec 32 := Scalar.remsi v106 c8_i32_44
  let c0_i32_49 : BitVec 32 := 0#32
  let v120 : BitVec 1 := Scalar.cmpi .ne v119 c0_i32_49
  let v121 : BitVec 1 := Scalar.andi v118 v120
  let v107 : BitVec 32 := Scalar.divsi v106 c8_i32_44
  let c1_i32_50 : BitVec 32 := 1#32
  let v122 : BitVec 32 := Scalar.subi v107 c1_i32_50
  let v123 : BitVec 32 := Scalar.select v121 v122 v107
  let c8_i32_51 : BitVec 32 := 8#32
  let v124 : BitVec 32 := Scalar.muli v123 c8_i32_51
  v124
def k0_mult6 (i : grid0.Coords) : BitVec 32 :=
  let c199_i32_52 : BitVec 32 := 199#32
  let arg0 : BitVec 32 := BitVec.ofNat 32 (i 0).val
  let c8_i32 : BitVec 32 := 8#32
  let v0 : BitVec 32 := Scalar.muli arg0 c8_i32
  let c5_i32 : BitVec 32 := 5#32
  let v127 : BitVec 32 := Scalar.addi v0 c5_i32
  let v128 : BitVec 32 := Scalar.subi c199_i32_52 v127
  let c0_i32_54 : BitVec 32 := 0#32
  let v130 : BitVec 1 := Scalar.cmpi .sgt v128 c0_i32_54
  let v131 : BitVec 32 := Scalar.extui v130
  let c0_i32_55 : BitVec 32 := 0#32
  let v132 : BitVec 1 := Scalar.cmpi .slt v128 c0_i32_55
  let v133 : BitVec 32 := Scalar.extui v132
  let v134 : BitVec 32 := Scalar.subi v131 v133
  let c8_i32_53 : BitVec 32 := 8#32
  let c0_i32_56 : BitVec 32 := 0#32
  let v135 : BitVec 1 := Scalar.cmpi .sgt c8_i32_53 c0_i32_56
  let v136 : BitVec 32 := Scalar.extui v135
  let c0_i32_57 : BitVec 32 := 0#32
  let v137 : BitVec 1 := Scalar.cmpi .slt c8_i32_53 c0_i32_57
  let v138 : BitVec 32 := Scalar.extui v137
  let v139 : BitVec 32 := Scalar.subi v136 v138
  let v140 : BitVec 1 := Scalar.cmpi .ne v134 v139
  let v141 : BitVec 32 := Scalar.remsi v128 c8_i32_53
  let c0_i32_58 : BitVec 32 := 0#32
  let v142 : BitVec 1 := Scalar.cmpi .ne v141 c0_i32_58
  let v143 : BitVec 1 := Scalar.andi v140 v142
  let v129 : BitVec 32 := Scalar.divsi v128 c8_i32_53
  let c1_i32_59 : BitVec 32 := 1#32
  let v144 : BitVec 32 := Scalar.subi v129 c1_i32_59
  let v145 : BitVec 32 := Scalar.select v143 v144 v129
  let c8_i32_60 : BitVec 32 := 8#32
  let v146 : BitVec 32 := Scalar.muli v145 c8_i32_60
  v146
def k0_mult7 (i : grid0.Coords) : BitVec 32 :=
  let c199_i32_61 : BitVec 32 := 199#32
  let arg0 : BitVec 32 := BitVec.ofNat 32 (i 0).val
  let c8_i32 : BitVec 32 := 8#32
  let v0 : BitVec 32 := Scalar.muli arg0 c8_i32
  let c6_i32 : BitVec 32 := 6#32
  let v149 : BitVec 32 := Scalar.addi v0 c6_i32
  let v150 : BitVec 32 := Scalar.subi c199_i32_61 v149
  let c0_i32_63 : BitVec 32 := 0#32
  let v152 : BitVec 1 := Scalar.cmpi .sgt v150 c0_i32_63
  let v153 : BitVec 32 := Scalar.extui v152
  let c0_i32_64 : BitVec 32 := 0#32
  let v154 : BitVec 1 := Scalar.cmpi .slt v150 c0_i32_64
  let v155 : BitVec 32 := Scalar.extui v154
  let v156 : BitVec 32 := Scalar.subi v153 v155
  let c8_i32_62 : BitVec 32 := 8#32
  let c0_i32_65 : BitVec 32 := 0#32
  let v157 : BitVec 1 := Scalar.cmpi .sgt c8_i32_62 c0_i32_65
  let v158 : BitVec 32 := Scalar.extui v157
  let c0_i32_66 : BitVec 32 := 0#32
  let v159 : BitVec 1 := Scalar.cmpi .slt c8_i32_62 c0_i32_66
  let v160 : BitVec 32 := Scalar.extui v159
  let v161 : BitVec 32 := Scalar.subi v158 v160
  let v162 : BitVec 1 := Scalar.cmpi .ne v156 v161
  let v163 : BitVec 32 := Scalar.remsi v150 c8_i32_62
  let c0_i32_67 : BitVec 32 := 0#32
  let v164 : BitVec 1 := Scalar.cmpi .ne v163 c0_i32_67
  let v165 : BitVec 1 := Scalar.andi v162 v164
  let v151 : BitVec 32 := Scalar.divsi v150 c8_i32_62
  let c1_i32_68 : BitVec 32 := 1#32
  let v166 : BitVec 32 := Scalar.subi v151 c1_i32_68
  let v167 : BitVec 32 := Scalar.select v165 v166 v151
  let c8_i32_69 : BitVec 32 := 8#32
  let v168 : BitVec 32 := Scalar.muli v167 c8_i32_69
  v168
def k0_mult8 (i : grid0.Coords) : BitVec 32 :=
  let c199_i32_70 : BitVec 32 := 199#32
  let arg0 : BitVec 32 := BitVec.ofNat 32 (i 0).val
  let c8_i32 : BitVec 32 := 8#32
  let v0 : BitVec 32 := Scalar.muli arg0 c8_i32
  let c7_i32 : BitVec 32 := 7#32
  let v171 : BitVec 32 := Scalar.addi v0 c7_i32
  let v172 : BitVec 32 := Scalar.subi c199_i32_70 v171
  let c0_i32_72 : BitVec 32 := 0#32
  let v174 : BitVec 1 := Scalar.cmpi .sgt v172 c0_i32_72
  let v175 : BitVec 32 := Scalar.extui v174
  let c0_i32_73 : BitVec 32 := 0#32
  let v176 : BitVec 1 := Scalar.cmpi .slt v172 c0_i32_73
  let v177 : BitVec 32 := Scalar.extui v176
  let v178 : BitVec 32 := Scalar.subi v175 v177
  let c8_i32_71 : BitVec 32 := 8#32
  let c0_i32_74 : BitVec 32 := 0#32
  let v179 : BitVec 1 := Scalar.cmpi .sgt c8_i32_71 c0_i32_74
  let v180 : BitVec 32 := Scalar.extui v179
  let c0_i32_75 : BitVec 32 := 0#32
  let v181 : BitVec 1 := Scalar.cmpi .slt c8_i32_71 c0_i32_75
  let v182 : BitVec 32 := Scalar.extui v181
  let v183 : BitVec 32 := Scalar.subi v180 v182
  let v184 : BitVec 1 := Scalar.cmpi .ne v178 v183
  let v185 : BitVec 32 := Scalar.remsi v172 c8_i32_71
  let c0_i32_76 : BitVec 32 := 0#32
  let v186 : BitVec 1 := Scalar.cmpi .ne v185 c0_i32_76
  let v187 : BitVec 1 := Scalar.andi v184 v186
  let v173 : BitVec 32 := Scalar.divsi v172 c8_i32_71
  let c1_i32_77 : BitVec 32 := 1#32
  let v188 : BitVec 32 := Scalar.subi v173 c1_i32_77
  let v189 : BitVec 32 := Scalar.select v187 v188 v173
  let c8_i32_78 : BitVec 32 := 8#32
  let v190 : BitVec 32 := Scalar.muli v189 c8_i32_78
  v190
@[reducible] def k0_t1_loop : Scf.Loop 32 :=
  let c0_i32_79 : BitVec 32 := 0#32
  let c25_i32 : BitVec 32 := 25#32
  let v193 : BitVec 32 := Scalar.addi c0_i32_79 c25_i32
  let c1_i32_80 : BitVec 32 := 1#32
  ⟨c0_i32_79, v193, c1_i32_80⟩
def k0_mult9 (k0_t1 : Fin k0_t1_loop.trips) : BitVec 32 :=
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  v194
def k0_off1 (k0_t1 : Fin k0_t1_loop.trips) : Fin 2 → Nat :=
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v196 : Index := Scalar.indexCast v195
  let c0_83 : Index := 0#32
  ![v196.toNat, 0]
def k0_off2 (i : grid0.Coords) (k0_t1 : Fin k0_t1_loop.trips) (c0_i32 : BitVec 32) : Fin 3 → Nat :=
  let c199_i32 : BitVec 32 := 199#32
  let arg0 : BitVec 32 := BitVec.ofNat 32 (i 0).val
  let c8_i32 : BitVec 32 := 8#32
  let v0 : BitVec 32 := Scalar.muli arg0 c8_i32
  let v17 : BitVec 32 := Scalar.addi v0 c0_i32
  let v18 : BitVec 32 := Scalar.subi c199_i32 v17
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c8_i32_8 : BitVec 32 := 8#32
  let c0_i32_11 : BitVec 32 := 0#32
  let v25 : BitVec 1 := Scalar.cmpi .sgt c8_i32_8 c0_i32_11
  let v26 : BitVec 32 := Scalar.extui v25
  let c0_i32_12 : BitVec 32 := 0#32
  let v27 : BitVec 1 := Scalar.cmpi .slt c8_i32_8 c0_i32_12
  let v28 : BitVec 32 := Scalar.extui v27
  let v29 : BitVec 32 := Scalar.subi v26 v28
  let v30 : BitVec 1 := Scalar.cmpi .ne v24 v29
  let v31 : BitVec 32 := Scalar.remsi v18 c8_i32_8
  let c0_i32_13 : BitVec 32 := 0#32
  let v32 : BitVec 1 := Scalar.cmpi .ne v31 c0_i32_13
  let v33 : BitVec 1 := Scalar.andi v30 v32
  let v19 : BitVec 32 := Scalar.divsi v18 c8_i32_8
  let c1_i32 : BitVec 32 := 1#32
  let v34 : BitVec 32 := Scalar.subi v19 c1_i32
  let v35 : BitVec 32 := Scalar.select v33 v34 v19
  let c8_i32_14 : BitVec 32 := 8#32
  let v36 : BitVec 32 := Scalar.muli v35 c8_i32_14
  let v37 : BitVec 32 := v36
  let v38 : BitVec 32 := Scalar.subi v18 v37
  let v200 : Index := Scalar.indexCast v38
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v199 : BitVec 32 := Scalar.addi v37 v195
  let v201 : Index := Scalar.indexCast v199
  let c0_84 : Index := 0#32
  ![v200.toNat, v201.toNat, 0]
def k0_off3 (k0_t1 : Fin k0_t1_loop.trips) : Fin 3 → Nat :=
  let c0_106 : Index := 0#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v288 : Index := Scalar.indexCast v195
  let c0_107 : Index := 0#32
  ![0, v288.toNat, 0]
def k0_off4 (k0_t1 : Fin k0_t1_loop.trips) : Fin 3 → Nat :=
  let c1_136 : Index := 1#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v381 : Index := Scalar.indexCast v195
  let c0_137 : Index := 0#32
  ![1, v381.toNat, 0]
def k0_off5 (k0_t1 : Fin k0_t1_loop.trips) : Fin 3 → Nat :=
  let c2_166 : Index := 2#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v474 : Index := Scalar.indexCast v195
  let c0_167 : Index := 0#32
  ![2, v474.toNat, 0]
def k0_off6 (k0_t1 : Fin k0_t1_loop.trips) : Fin 3 → Nat :=
  let c3_196 : Index := 3#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v567 : Index := Scalar.indexCast v195
  let c0_197 : Index := 0#32
  ![3, v567.toNat, 0]
def k0_off7 (k0_t1 : Fin k0_t1_loop.trips) : Fin 3 → Nat :=
  let c4_226 : Index := 4#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v660 : Index := Scalar.indexCast v195
  let c0_227 : Index := 0#32
  ![4, v660.toNat, 0]
def k0_off8 (k0_t1 : Fin k0_t1_loop.trips) : Fin 3 → Nat :=
  let c5_256 : Index := 5#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v753 : Index := Scalar.indexCast v195
  let c0_257 : Index := 0#32
  ![5, v753.toNat, 0]
def k0_off9 (k0_t1 : Fin k0_t1_loop.trips) : Fin 3 → Nat :=
  let c6_286 : Index := 6#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v846 : Index := Scalar.indexCast v195
  let c0_287 : Index := 0#32
  ![6, v846.toNat, 0]
def k0_off10 (k0_t1 : Fin k0_t1_loop.trips) : Fin 3 → Nat :=
  let c7_316 : Index := 7#32
  let c0_i32_79 : BitVec 32 := 0#32
  let c1_i32_80 : BitVec 32 := 1#32
  let arg7 : BitVec 32 := Scf.iv c0_i32_79 c1_i32_80 k0_t1
  let c8_i32_82 : BitVec 32 := 8#32
  let v194 : BitVec 32 := Scalar.muli arg7 c8_i32_82
  let v195 : BitVec 32 := v194
  let v939 : Index := Scalar.indexCast v195
  let c0_317 : Index := 0#32
  ![7, v939.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x400x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x200x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x200 : Shape := ⟨2, ![1024, 200]⟩
abbrev S129x1 : Shape := ⟨2, ![129, 1]⟩
abbrev S399x1 : Shape := ⟨2, ![399, 1]⟩
abbrev S200 : Shape := ⟨1, ![200]⟩
abbrev S1x200 : Shape := ⟨2, ![1, 200]⟩
abbrev S200x1 : Shape := ⟨2, ![200, 1]⟩
abbrev S200x200 : Shape := ⟨2, ![200, 200]⟩
abbrev S_ : Shape := ⟨0, ![]⟩
abbrev S200x200x1 : Shape := ⟨3, ![200, 200, 1]⟩
abbrev S1 : Shape := ⟨1, ![1]⟩
abbrev S1x1x1 : Shape := ⟨3, ![1, 1, 1]⟩
abbrev S1024x1 : Shape := ⟨2, ![1024, 1]⟩
abbrev S1024x201 : Shape := ⟨2, ![1024, 201]⟩
abbrev S1024x200x1 : Shape := ⟨3, ![1024, 200, 1]⟩
abbrev S1024x1x200 : Shape := ⟨3, ![1024, 1, 200]⟩
abbrev S1024x200x200 : Shape := ⟨3, ![1024, 200, 200]⟩
abbrev S1024x200x200x1 : Shape := ⟨4, ![1024, 200, 200, 1]⟩
abbrev S1x1x1x1 : Shape := ⟨4, ![1, 1, 1, 1]⟩
abbrev S1x200x200 : Shape := ⟨3, ![1, 200, 200]⟩
abbrev S1024x1x200x200 : Shape := ⟨4, ![1024, 1, 200, 200]⟩

abbrev nBuf : Space → Nat
  | .hbm => 88
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S129x1, .f32⟩
  | .hbm, ⟨2, _⟩ => ⟨S399x1, .f32⟩
  | .hbm, ⟨3, _⟩ => ⟨S200, .i32⟩
  | .hbm, ⟨4, _⟩ => ⟨S1x200, .i32⟩
  | .hbm, ⟨5, _⟩ => ⟨S200x1, .i32⟩
  | .hbm, ⟨6, _⟩ => ⟨S200x200, .i32⟩
  | .hbm, ⟨7, _⟩ => ⟨S200x200, .i32⟩
  | .hbm, ⟨8, _⟩ => ⟨S200x200, .i32⟩
  | .hbm, ⟨9, _⟩ => ⟨S_, .i32⟩
  | .hbm, ⟨10, _⟩ => ⟨S200x200, .i32⟩
  | .hbm, ⟨11, _⟩ => ⟨S200x200, .i32⟩
  | .hbm, ⟨12, _⟩ => ⟨S_, .i32⟩
  | .hbm, ⟨13, _⟩ => ⟨S200x200, .i32⟩
  | .hbm, ⟨14, _⟩ => ⟨S200x200, .i1⟩
  | .hbm, ⟨15, _⟩ => ⟨S_, .i32⟩
  | .hbm, ⟨16, _⟩ => ⟨S200x200, .i32⟩
  | .hbm, ⟨17, _⟩ => ⟨S200x200, .i32⟩
  | .hbm, ⟨18, _⟩ => ⟨S200x200, .i32⟩
  | .hbm, ⟨19, _⟩ => ⟨S200x200x1, .i32⟩
  | .hbm, ⟨20, _⟩ => ⟨S1, .i32⟩
  | .hbm, ⟨21, _⟩ => ⟨S_, .i32⟩
  | .hbm, ⟨22, _⟩ => ⟨S200x200x1, .i32⟩
  | .hbm, ⟨23, _⟩ => ⟨S200x200x1, .i1⟩
  | .hbm, ⟨24, _⟩ => ⟨S1x1x1, .i32⟩
  | .hbm, ⟨25, _⟩ => ⟨S200x200x1, .i32⟩
  | .hbm, ⟨26, _⟩ => ⟨S200x200x1, .i1⟩
  | .hbm, ⟨27, _⟩ => ⟨S200x200x1, .i1⟩
  | .hbm, ⟨28, _⟩ => ⟨S_, .i1⟩
  | .hbm, ⟨29, _⟩ => ⟨S200x200, .i1⟩
  | .hbm, ⟨30, _⟩ => ⟨S200x200x1, .f32⟩
  | .hbm, ⟨31, _⟩ => ⟨S200x200x1, .i1⟩
  | .hbm, ⟨32, _⟩ => ⟨S_, .f32⟩
  | .hbm, ⟨33, _⟩ => ⟨S200x200x1, .f32⟩
  | .hbm, ⟨34, _⟩ => ⟨S200x200x1, .f32⟩
  | .hbm, ⟨35, _⟩ => ⟨S200x200, .f32⟩
  | .hbm, ⟨36, _⟩ => ⟨S1024x1, .i32⟩
  | .hbm, ⟨37, _⟩ => ⟨S1024x201, .i32⟩
  | .hbm, ⟨38, _⟩ => ⟨S1024x200, .i32⟩
  | .hbm, ⟨39, _⟩ => ⟨S1024x200x1, .i32⟩
  | .hbm, ⟨40, _⟩ => ⟨S1024x200, .i32⟩
  | .hbm, ⟨41, _⟩ => ⟨S1024x1x200, .i32⟩
  | .hbm, ⟨42, _⟩ => ⟨S1024x200x200, .i32⟩
  | .hbm, ⟨43, _⟩ => ⟨S1024x200x200, .i32⟩
  | .hbm, ⟨44, _⟩ => ⟨S1024x200x200, .i32⟩
  | .hbm, ⟨45, _⟩ => ⟨S_, .i32⟩
  | .hbm, ⟨46, _⟩ => ⟨S1024x200x200, .i32⟩
  | .hbm, ⟨47, _⟩ => ⟨S1024x200x200, .i32⟩
  | .hbm, ⟨48, _⟩ => ⟨S1024x200x200, .f32⟩
  | .hbm, ⟨49, _⟩ => ⟨S1024x200x200, .f32⟩
  | .hbm, ⟨50, _⟩ => ⟨S1024x200x200, .f32⟩
  | .hbm, ⟨51, _⟩ => ⟨S1024x200x200, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1024x200x200, .i32⟩
  | .hbm, ⟨56, _⟩ => ⟨S1024x200x200, .i32⟩
  | .hbm, ⟨57, _⟩ => ⟨S_, .i32⟩
  | .hbm, ⟨58, _⟩ => ⟨S1024x200x200, .i32⟩
  | .hbm, ⟨59, _⟩ => ⟨S1024x200x200, .i32⟩
  | .hbm, ⟨60, _⟩ => ⟨S_, .i32⟩
  | .hbm, ⟨61, _⟩ => ⟨S1024x200x200, .i32⟩
  | .hbm, ⟨62, _⟩ => ⟨S1024x200x200, .i1⟩
  | .hbm, ⟨63, _⟩ => ⟨S_, .i32⟩
  | .hbm, ⟨64, _⟩ => ⟨S1024x200x200, .i32⟩
  | .hbm, ⟨65, _⟩ => ⟨S1024x200x200, .i32⟩
  | .hbm, ⟨66, _⟩ => ⟨S1024x200x200, .i32⟩
  | .hbm, ⟨67, _⟩ => ⟨S1024x200x200x1, .i32⟩
  | .hbm, ⟨68, _⟩ => ⟨S1, .i32⟩
  | .hbm, ⟨69, _⟩ => ⟨S_, .i32⟩
  | .hbm, ⟨70, _⟩ => ⟨S1024x200x200x1, .i32⟩
  | .hbm, ⟨71, _⟩ => ⟨S1024x200x200x1, .i1⟩
  | .hbm, ⟨72, _⟩ => ⟨S1x1x1x1, .i32⟩
  | .hbm, ⟨73, _⟩ => ⟨S1024x200x200x1, .i32⟩
  | .hbm, ⟨74, _⟩ => ⟨S1024x200x200x1, .i1⟩
  | .hbm, ⟨75, _⟩ => ⟨S1024x200x200x1, .i1⟩
  | .hbm, ⟨76, _⟩ => ⟨S_, .i1⟩
  | .hbm, ⟨77, _⟩ => ⟨S1024x200x200, .i1⟩
  | .hbm, ⟨78, _⟩ => ⟨S1024x200x200x1, .f32⟩
  | .hbm, ⟨79, _⟩ => ⟨S1024x200x200x1, .i1⟩
  | .hbm, ⟨80, _⟩ => ⟨S_, .f32⟩
  | .hbm, ⟨81, _⟩ => ⟨S1024x200x200x1, .f32⟩
  | .hbm, ⟨82, _⟩ => ⟨S1024x200x200x1, .f32⟩
  | .hbm, ⟨83, _⟩ => ⟨S1024x200x200, .f32⟩
  | .hbm, ⟨84, _⟩ => ⟨S1x200x200, .f32⟩
  | .hbm, ⟨85, _⟩ => ⟨S1024x200x200, .f32⟩
  | .hbm, ⟨86, _⟩ => ⟨S1024x200x200, .f32⟩
  | .hbm, ⟨87, _⟩ => ⟨S1024x1x200x200, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_1 : Ref sig .tc := ⟨.hbm, 52, rfl⟩
abbrev main_c_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v25 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Offsets.lean ====
/-
  The offsets of the kernel's loads and stores as numbers. The kernel computes them with 32-bit words; each equation here
  is checked over every grid point, every step of the loop and every row of a block.
-/
module

public import proofs.«01_k».proof.Proof.Gen.KernelIdeal.Skeleton

@[expose] public section

noncomputable section

namespace Cert.Bias

open Idealize.ShloMosaic Cert.KernelIdeal Cert.KernelIdeal.Gen

/-- Where a step of the loop reads the positions of row `t` of the block at grid point `i`: with `p = 199 - (8 i + t)`,
    shifted copy `p mod 8`, from entry `8 ⌊p / 8⌋ + 8 k` on. -/
theorem off2_eq : ∀ (i : grid0.Coords) (k : Fin k0_t1_loop.trips) (t : Fin 8), k0_off2 i k (BitVec.ofNat 32 t.val) =
    ![(199 - ((i 0).val * 8 + t.val)) % 8, (199 - ((i 0).val * 8 + t.val)) / 8 * 8 + k.val * 8, 0] := by
  decide +kernel

/-- A step of the loop reads eight time steps from `8 k` on. -/
theorem off1_eq : ∀ k : Fin k0_t1_loop.trips, k0_off1 k = ![k.val * 8, 0] := by decide +kernel

/-- The eight tiles a step of the loop stores, one for each row of the block, all from column `8 k` on. -/
theorem off_out_eq : ∀ k : Fin k0_t1_loop.trips,
    k0_off3 k = ![0, k.val * 8, 0] ∧ k0_off4 k = ![1, k.val * 8, 0] ∧ k0_off5 k = ![2, k.val * 8, 0]
    ∧ k0_off6 k = ![3, k.val * 8, 0] ∧ k0_off7 k = ![4, k.val * 8, 0] ∧ k0_off8 k = ![5, k.val * 8, 0]
    ∧ k0_off9 k = ![6, k.val * 8, 0] ∧ k0_off10 k = ![7, k.val * 8, 0] := by decide +kernel

/-- The loop has twenty-five steps. -/
theorem trips_eq : k0_t1_loop.trips = 25 := by decide +kernel

end Cert.Bias

end
-- ==== Proof.Block.lean ====
module

public import proofs.«01_k».proof.Proof.Gen.KernelIdeal.Frame
public import proofs.«01_k».proof.Proof.Offsets
public import Idealize.ShloMosaic.Lib.Pipeline.Value
public import Idealize.ShloMosaic.Lib.ValueIdx
public import Idealize.ShloMosaic.Lib.Pipeline.ValueKit.Tiles

/-! One grid step of the kernel. The step handles eight rows; its loop walks the 200 columns eight at a time, and each trip
stores, for every row, a tile of eight columns by 1024 sequences. This module says what one trip leaves in the output block:
in the eight columns of the trip the table entry chosen by thirteen comparisons plus the position, and elsewhere what was
there. -/

@[expose] public section
set_option maxRecDepth 8192
set_option maxHeartbeats 4000000
noncomputable section
namespace Cert.Bias
open Idealize.ShloMosaic Idealize.ShloMosaic.TcCoe Idealize.ShloMosaic.Tactic
open Idealize.SL Idealize.SL.RA Idealize.SL.BI
open Cert.KernelIdeal Cert.KernelIdeal.Gen
variable {F : FTy → Type} [FloatOps F]

open Idealize.ShloMosaic.ValueIdx

/-! ## Words of scalar memory -/

/-- Threshold `j`, as the kernel loads it. -/
def thWord (arg1 : Memref sig .tc .smem S13 .i32) (X : BufTy.Contents (Elt F) arg1.view.ty) (j : Fin 13) : BitVec 32 :=
  View.readAt (Elt F) arg1.view (Rect.unit (s := S13) ![j.val] S1.size (fun a => match a with | ⟨0, _⟩ => j.isLt)).toLoadRect X
    (Shape.Idx.first (s := S1) (by decide))

/-- Table entry `j`, as the kernel loads it. -/
def tbWord (arg2 : Memref sig .tc .smem S129 .f32) (X : BufTy.Contents (Elt F) arg2.view.ty) (j : Fin 129) : Elt F .f32 :=
  View.readAt (Elt F) arg2.view (Rect.unit (s := S129) ![j.val] S1.size (fun a => match a with | ⟨0, _⟩ => j.isLt)).toLoadRect X
    (Shape.Idx.first (s := S1) (by decide))

/-- The load of threshold `j` is element `j` of the array. -/
theorem thWord_eq (arg1 : Memref sig .tc .smem S13 .i32) (X : BufTy.Contents (Elt F) arg1.view.ty) (j : Fin 13) :
    thWord (F := F) arg1 X j = arg1.view.read (Elt F) X (ix1 j) := by
  unfold thWord; rw [View.readAt_eq_ld]
  exact View.ld_unit_apply_of _ _ _ _ _ (ix1 j) (fun a => by fin_cases a; rfl)

/-- The load of table entry `j` is element `j` of the array. -/
theorem tbWord_eq (arg2 : Memref sig .tc .smem S129 .f32) (X : BufTy.Contents (Elt F) arg2.view.ty) (j : Fin 129) :
    tbWord (F := F) arg2 X j = arg2.view.read (Elt F) X (ix1 j) := by
  unfold tbWord; rw [View.readAt_eq_ld]
  exact View.ld_unit_apply_of _ _ _ _ _ (ix1 j) (fun a => by fin_cases a; rfl)

/-! ## One tile -/

/-- The entry that comparing the word `w` with the thresholds in turn ends with, after `k` of them. -/
def chain {α : Type} (th : Fin 13 → BitVec 32) (tab : Fin 129 → α) (w : BitVec 32) : ℕ → α
  | 0 => tab 0
  | k + 1 => if h : k < 13 then Scalar.select (IntOp.cmpi .sge w (th ⟨k, h⟩)) (tab ⟨k + 1, by omega⟩) (chain th tab w k)
      else chain th tab w k

/-- The same on a whole tile of words: what the kernel computes after `k` comparisons. -/
def chainTile (th : Fin 13 → BitVec 32) (tab : Fin 129 → Elt F .f32) (w : IVec S8x1024 32) : ℕ → FVec F S8x1024 .f32
  | 0 => broadcast S8x1024 (tab 0)
  | k + 1 => if h : k < 13 then
      select (cmpi .sge w (broadcast S8x1024 (th ⟨k, h⟩))) (broadcast S8x1024 (tab ⟨k + 1, by omega⟩)) (chainTile th tab w k)
    else chainTile th tab w k

/-- A tile of comparisons read at a place is the comparisons of the word there. -/
theorem chainTile_apply (th : Fin 13 → BitVec 32) (tab : Fin 129 → Elt F .f32) (w : IVec S8x1024 32) (x : S8x1024.Idx) :
    ∀ k, chainTile th tab w k x = chain th tab (w x) k
  | 0 => rfl
  | k + 1 => by
      unfold chainTile chain
      split
      · show Scalar.select _ _ (chainTile th tab w k x) = _
        rw [chainTile_apply th tab w x k]; rfl
      · exact chainTile_apply th tab w x k

/-- The tile one step of the loop computes for one row of the block: the table entries chosen by the differences of the
    row's later time `v` and the eight time steps `ts`, plus the eight positions `ps`. -/
def tile (th : Fin 13 → BitVec 32) (tab : Fin 129 → Elt F .f32) (v : IVec S1x1024 32) (ts : IVec S8x1024 32)
    (ps : FVec F S1x8x1 .f32) : FVec F S1x8x1024 .f32 :=
  shapeCast S1x8x1024
    (addf (chainTile th tab (subi (broadcastTo S8x1024 v broadcasts_S1x1024_S8x1024) (shapeCast S8x1024 ts shapeCasts_S8x1024_S8x1024)) 13)
      (broadcastTo S8x1024 (shapeCast S8x1 ps shapeCasts_S1x8x1_S8x1) broadcasts_S8x1_S8x1024))
    shapeCasts_S8x1024_S1x8x1024

/-- The tile at a place. -/
theorem tile_apply (th : Fin 13 → BitVec 32) (tab : Fin 129 → Elt F .f32) (v : IVec S1x1024 32) (ts : IVec S8x1024 32)
    (ps : FVec F S1x8x1 .f32) (z : Fin 1) (s : Fin 8) (l : Fin 1024) :
    tile th tab v ts ps (ix3 z s l) =
      FloatOps.addf (chain th tab (IntOp.subi (v (ix2 0 l)) (ts (ix2 s l))) 13) (ps (ix3 0 s 0)) := by
  unfold tile
  rw [shapeCast_apply _ shapeCasts_S8x1024_S1x8x1024 (ix3 z s l) (ix2 s l) (by
    rw [Shape.rowMajor_val_three, Shape.rowMajor_val_two]
    have := z.isLt
    show s.val * 1024 + l.val = (z.val * 8 + s.val) * 1024 + l.val
    omega)]
  show FloatOps.addf (chainTile th tab _ 13 (ix2 s l)) (broadcastTo S8x1024 _ broadcasts_S8x1_S8x1024 (ix2 s l)) = _
  rw [chainTile_apply, broadcastTo_apply _ broadcasts_S8x1_S8x1024 (ix2 s l) (ix2 s 0) (fun a => by fin_cases a <;> simp),
    shapeCast_apply _ shapeCasts_S1x8x1_S8x1 (ix2 s 0) (ix3 0 s 0) (by
      rw [Shape.rowMajor_val_three, Shape.rowMajor_val_two]; simp)]
  congr 2
  show IntOp.subi (broadcastTo S8x1024 _ broadcasts_S1x1024_S8x1024 (ix2 s l)) (shapeCast S8x1024 ts _ (ix2 s l)) = _
  rw [shapeCast_self, broadcastTo_apply _ broadcasts_S1x1024_S8x1024 (ix2 s l) (ix2 0 l) (fun a => by fin_cases a <;> simp)]

/-! ## One step of the loop -/

/-- What the kernel leaves at row `t`, column `j`, lane `l` of the block of grid point `i`, from the thresholds, the
    table, the block's eight later times, all the times and the shifted positions. -/
def cell (th : Fin 13 → BitVec 32) (tab : Fin 129 → Elt F .f32) (late : Fin 8 → IVec S1x1024 32) (ts : IVec S200x1024 32)
    (ps : FVec F S8x400x1 .f32) (i : Fin 25) (t : Fin 8) (j : Fin 200) (l : Fin 1024) : F .f32 :=
  FloatOps.addf (chain th tab (IntOp.subi (late t (ix2 0 l)) (ts (ix2 j l))) 13)
    (ps (ix3 ⟨(199 - (i.val * 8 + t.val)) % 8, by omega⟩ ⟨(199 - (i.val * 8 + t.val)) / 8 * 8 + j.val, by omega⟩ 0))

/-- A tile whose loads are the loop's, stored at row `t` from column `8 k` on, holds the block's cells. -/
theorem tile_cell (th : Fin 13 → BitVec 32) (tab : Fin 129 → Elt F .f32) (late : Fin 8 → IVec S1x1024 32) (i : grid0.Coords)
    (arg3 : Memref sig .tc .vmem S200x1024 .i32) (arg5 : Memref sig .tc .vmem S8x400x1 .f32)
    (X_arg3 : BufTy.Contents (Elt F) arg3.view.ty) (X_arg5 : BufTy.Contents (Elt F) arg5.view.ty)
    (k : Fin k0_t1_loop.trips) (t : Fin 8) (off : Fin 3 → Nat) (hoff : off = ![t.val, k.val * 8, 0])
    (inb : ∀ a, off a + S1x8x1024.size a ≤ S8x200x1024.size a) (inb1) (inb2)
    (x : S1x8x1024.Idx) :
    tile th tab (late t)
      (View.readAt (Elt F) arg3.view (Rect.unit (s := S200x1024) (k0_off1 k) S8x1024.size inb1).toLoadRect X_arg3)
      (View.readAt (Elt F) arg5.view (Rect.unit (s := S8x400x1) (k0_off2 i k (BitVec.ofNat 32 t.val)) S1x8x1.size inb2).toLoadRect X_arg5) x
    = (fun y : S8x200x1024.Idx => cell th tab late (arg3.view.read (Elt F) X_arg3) (arg5.view.read (Elt F) X_arg5) (i 0) (y 0) (y 1) (y 2))
        ((Rect.unit (s := S8x200x1024) off S1x8x1024.size inb).emb x) := by
  subst hoff
  have hk : k.val < 25 := Nat.lt_of_lt_of_eq k.isLt trips_eq
  have hi : (i 0).val < 25 := (i 0).isLt
  obtain ⟨z, s, l, rfl⟩ : ∃ (z : Fin 1) (s : Fin 8) (l : Fin 1024), x = ix3 z s l := ⟨x 0, x 1, x 2, eq_ix3 x⟩
  have hz : z.val = 0 := by have := z.isLt; omega
  have hj : k.val * 8 + s.val < 200 := by have := s.isLt; omega
  have ey : (Rect.unit (s := S8x200x1024) ![t.val, k.val * 8, 0] S1x8x1024.size inb).emb (ix3 z s l)
      = ix3 t ⟨k.val * 8 + s.val, hj⟩ l := by
    funext a
    match a with
    | ⟨0, _⟩ => exact Fin.ext (by show t.val + 1 * z.val = t.val; omega)
    | ⟨1, _⟩ => exact Fin.ext (by show k.val * 8 + 1 * s.val = k.val * 8 + s.val; omega)
    | ⟨2, _⟩ => exact Fin.ext (by show 0 + 1 * l.val = l.val; omega)
  have e1 : View.readAt (Elt F) arg3.view (Rect.unit (s := S200x1024) (k0_off1 k) S8x1024.size inb1).toLoadRect X_arg3 (ix2 s l)
      = arg3.view.read (Elt F) X_arg3 (ix2 ⟨k.val * 8 + s.val, hj⟩ l) := by
    refine View.ld_unit_apply_of (arg3.view.read (Elt F) X_arg3) _ _ inb1 (ix2 s l) _ (fun a => ?_)
    refine Eq.trans ?_ (congrArg (· + _) (congrFun (off1_eq k) a).symm)
    match a with
    | ⟨0, _⟩ => rfl
    | ⟨1, _⟩ => show l.val = 0 + l.val; omega
  have e2 : View.readAt (Elt F) arg5.view (Rect.unit (s := S8x400x1) (k0_off2 i k (BitVec.ofNat 32 t.val)) S1x8x1.size inb2).toLoadRect
        X_arg5 (ix3 0 s 0)
      = arg5.view.read (Elt F) X_arg5 (ix3 ⟨(199 - ((i 0).val * 8 + t.val)) % 8, by omega⟩
          ⟨(199 - ((i 0).val * 8 + t.val)) / 8 * 8 + (k.val * 8 + s.val), by omega⟩ 0) := by
    refine View.ld_unit_apply_of (arg5.view.read (Elt F) X_arg5) _ _ inb2 (ix3 0 s 0) _ (fun a => ?_)
    refine Eq.trans ?_ (congrArg (· + _) (congrFun (off2_eq i k t) a).symm)
    match a with
    | ⟨0, _⟩ => rfl
    | ⟨1, _⟩ => show _ + (k.val * 8 + s.val) = _ + k.val * 8 + s.val; omega
    | ⟨2, _⟩ => rfl
  refine (tile_apply _ _ _ _ _ z s l).trans ?_
  rw [e1, e2, ey]
  rfl

/-- Every tile that one step of the loop stores holds the block's cells. -/
theorem trip_cells (𝒱 : Variants) (c : Dev nD) (bd : Option 𝒱.V) (i : grid0.Coords) (arg1 : Memref sig .tc .smem S13 .i32) (harg1 : arg1.IsWhole) (arg2 : Memref sig .tc .smem S129 .f32) (harg2 : arg2.IsWhole) (arg3 : Memref sig .tc .vmem S200x1024 .i32) (harg3 : arg3.IsWhole) (arg4 : Memref sig .tc .vmem S8x1024 .i32) (harg4 : arg4.IsWhole) (arg5 : Memref sig .tc .vmem S8x400x1 .f32) (harg5 : arg5.IsWhole) (arg6 : Memref sig .tc .vmem S8x200x1024 .f32) (harg6 : arg6.IsWhole) (v2 : IVec S1x1024 32) (v4 : IVec S1x1024 32) (v6 : IVec S1x1024 32) (v8 : IVec S1x1024 32) (v10 : IVec S1x1024 32) (v12 : IVec S1x1024 32) (v14 : IVec S1x1024 32) (v16 : IVec S1x1024 32) (v37 : BitVec 32) (v38 : BitVec 32) (v59 : BitVec 32) (v60 : BitVec 32) (v81 : BitVec 32) (v82 : BitVec 32) (v103 : BitVec 32) (v104 : BitVec 32) (v125 : BitVec 32) (v126 : BitVec 32) (v147 : BitVec 32) (v148 : BitVec 32) (v169 : BitVec 32) (v170 : BitVec 32) (v191 : BitVec 32) (v192 : BitVec 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (k : Fin k0_t1_loop.trips) :
    ∀ p ∈ tripL_k0_t1 (F := F) 𝒱 c bd i arg1 harg1 arg2 harg2 arg3 harg3 arg4 harg4 arg5 harg5 arg6 harg6 v2 v4 v6 v8 v10 v12 v14 v16 v37 v38 v59 v60 v81 v82 v103 v104 v125 v126 v147 v148 v169 v170 v191 v192 X_arg1 X_arg2 X_arg3 X_arg5 k, ∀ x : p.1.shape.Idx,
      p.2 x = (fun y : S8x200x1024.Idx => cell (thWord arg1 X_arg1) (tbWord arg2 X_arg2) ![v2, v4, v6, v8, v10, v12, v14, v16]
        (arg3.view.read (Elt F) X_arg3) (arg5.view.read (Elt F) X_arg5) (i 0) (y 0) (y 1) (y 2)) (p.1.emb x) := by
  obtain ⟨h3, h4, h5, h6, h7, h8, h9, h10⟩ := off_out_eq k
  have row := tile_cell (thWord arg1 X_arg1) (tbWord arg2 X_arg2) ![v2, v4, v6, v8, v10, v12, v14, v16] i arg3 arg5 X_arg3 X_arg5 k
  unfold tripL_k0_t1 trip_k0_t1
  dsimp only
  simp only [List.forall_mem_cons]
  refine ⟨?_, ?_, ?_, ?_, ?_, ?_, ?_, ?_, fun p hp => absurd hp List.not_mem_nil⟩
  all_goals intro x
  · exact row 7 _ h10 _ _ _ x
  · exact row 6 _ h9 _ _ _ x
  · exact row 5 _ h8 _ _ _ x
  · exact row 4 _ h7 _ _ _ x
  · exact row 3 _ h6 _ _ _ x
  · exact row 2 _ h5 _ _ _ x
  · exact row 1 _ h4 _ _ _ x
  · exact row 0 _ h3 _ _ _ x

end Cert.Bias

end
-- ==== Proof.Outs.lean ====
module

public import proofs.«01_k».proof.Proof.Block

/-! What the body leaves in the block of one grid point: the cells of `Cert.Bias.cell`, at every place.

The loop's 25 steps store 200 tiles; every one of them holds the block's cells (`trip_cells`), and together they cover
the block. So the block read at a place is the cell there. -/

@[expose] public section
set_option maxRecDepth 16384
set_option maxHeartbeats 4000000
noncomputable section
namespace Cert.Bias
open Idealize.ShloMosaic Idealize.ShloMosaic.TcCoe Idealize.ShloMosaic.Tactic
open Idealize.SL Idealize.SL.RA Idealize.SL.BI
open Idealize.ShloMosaic.ValueIdx
open Cert.KernelIdeal Cert.KernelIdeal.Gen
variable {F : FTy → Type} [FloatOps F]

/-- Every tile stored by the first `n` steps of the loop holds the block's cells. -/
theorem loop_cells (𝒱 : Variants) (c : Dev nD) (bd : Option 𝒱.V) (i : grid0.Coords) (arg1 : Memref sig .tc .smem S13 .i32)
    (harg1 : arg1.IsWhole) (arg2 : Memref sig .tc .smem S129 .f32) (harg2 : arg2.IsWhole)
    (arg3 : Memref sig .tc .vmem S200x1024 .i32) (harg3 : arg3.IsWhole) (arg4 : Memref sig .tc .vmem S8x1024 .i32)
    (harg4 : arg4.IsWhole) (arg5 : Memref sig .tc .vmem S8x400x1 .f32) (harg5 : arg5.IsWhole)
    (arg6 : Memref sig .tc .vmem S8x200x1024 .f32) (harg6 : arg6.IsWhole) (v2 : IVec S1x1024 32)
    (v4 : IVec S1x1024 32) (v6 : IVec S1x1024 32) (v8 : IVec S1x1024 32) (v10 : IVec S1x1024 32)
    (v12 : IVec S1x1024 32) (v14 : IVec S1x1024 32) (v16 : IVec S1x1024 32) (v37 : BitVec 32) (v38 : BitVec 32)
    (v59 : BitVec 32) (v60 : BitVec 32) (v81 : BitVec 32) (v82 : BitVec 32) (v103 : BitVec 32) (v104 : BitVec 32)
    (v125 : BitVec 32) (v126 : BitVec 32) (v147 : BitVec 32) (v148 : BitVec 32) (v169 : BitVec 32) (v170 : BitVec 32)
    (v191 : BitVec 32) (v192 : BitVec 32) (X_arg1 : BufTy.Contents (Elt F) arg1.view.ty)
    (X_arg2 : BufTy.Contents (Elt F) arg2.view.ty) (X_arg3 : BufTy.Contents (Elt F) arg3.view.ty)
    (X_arg5 : BufTy.Contents (Elt F) arg5.view.ty) :
    ∀ n ≤ k0_t1_loop.trips, ∀ p ∈ pb_k0_t1 (F := F) 𝒱 c bd i arg1 harg1 arg2 harg2 arg3 harg3 arg4 harg4 arg5 harg5 arg6 harg6 v2 v4 v6 v8 v10 v12 v14 v16 v37 v38 v59 v60
      v81 v82 v103 v104 v125 v126 v147 v148 v169 v170 v191 v192 X_arg1 X_arg2 X_arg3 X_arg5 n,
      ∀ x : p.1.shape.Idx,
      p.2 x = (fun y : S8x200x1024.Idx => cell (thWord arg1 X_arg1) (tbWord arg2 X_arg2) ![v2, v4, v6, v8, v10, v12, v14, v16]
        (arg3.view.read (Elt F) X_arg3) (arg5.view.read (Elt F) X_arg5) (i 0) (y 0) (y 1) (y 2)) (p.1.emb x)
  | 0, _, p, hp, _ => by rw [pb_k0_t1.eq_1] at hp; exact absurd hp List.not_mem_nil
  | n + 1, hn, p, hp, x => by
      have hs := pb_k0_t1_succ (F := F) 𝒱 c bd i arg1 harg1 arg2 harg2 arg3 harg3 arg4 harg4 arg5 harg5 arg6 harg6 v2 v4 v6 v8 v10 v12 v14 v16 v37 v38 v59 v60
        v81 v82 v103 v104 v125 v126 v147 v148 v169 v170 v191 v192 X_arg1 X_arg2 X_arg3 X_arg5 ⟨n, hn⟩
      rw [hs] at hp
      rcases List.mem_append.mp hp with h | h
      · exact trip_cells 𝒱 c bd i arg1 harg1 arg2 harg2 arg3 harg3 arg4 harg4 arg5 harg5 arg6 harg6 v2 v4 v6 v8 v10 v12 v14 v16 v37 v38 v59 v60
          v81 v82 v103 v104 v125 v126 v147 v148 v169 v170 v191 v192 X_arg1 X_arg2 X_arg3 X_arg5 ⟨n, hn⟩ p h x
      · exact loop_cells 𝒱 c bd i arg1 harg1 arg2 harg2 arg3 harg3 arg4 harg4 arg5 harg5 arg6 harg6 v2 v4 v6 v8 v10 v12 v14 v16 v37 v38 v59 v60
          v81 v82 v103 v104 v125 v126 v147 v148 v169 v170 v191 v192 X_arg1 X_arg2 X_arg3 X_arg5 n (by omega) p h x

/-- Row `t` of a block of eight later times, as one row. -/
def lateRow (x : Vec F S8x1024 .i32) (t : Fin 8) : IVec S1x1024 32 := fun y => x (ix2 t (y 1))

/-- The load of row `t` of the later times. -/
theorem lateRow_eq (arg4 : Memref sig .tc .vmem S8x1024 .i32) (harg4 : arg4.IsWhole) (x : Vec F S8x1024 .i32) (t : Fin 8)
    (inb : ∀ a, (![t.val, 0] : Fin 2 → Nat) a + S1x1024.size a ≤ S8x1024.size a) (h : S1x1024.ShapeCasts S1x1024) :
    shapeCast S1x1024 (View.readAt (Elt F) arg4.view (Rect.unit (s := S8x1024) ![t.val, 0] S1x1024.size inb).toLoadRect
      (harg4.unread x)) h = lateRow x t := by
  refine (shapeCast_self (s := S1x1024) _ h).trans ?_
  rw [View.readAt_eq_ld, harg4.read_unread]
  funext y
  refine View.ld_unit_apply_of _ _ _ _ _ (ix2 t (y 1)) (fun a => ?_)
  match a with
  | ⟨0, _⟩ => show t.val = t.val + (y 0).val; have : (y 0).val < 1 := (y 0).isLt; omega
  | ⟨1, _⟩ => show (y 1).val = 0 + (y 1).val; omega

/-- Every tile the body stores holds the block's cells. -/
theorem run_cells (c : Dev nD) (i : grid0.Coords) (arg1 : Memref sig .tc .smem S13 .i32) (harg1 : arg1.IsWhole)
    (arg2 : Memref sig .tc .smem S129 .f32) (harg2 : arg2.IsWhole) (arg3 : Memref sig .tc .vmem S200x1024 .i32)
    (harg3 : arg3.IsWhole) (arg4 : Memref sig .tc .vmem S8x1024 .i32) (harg4 : arg4.IsWhole)
    (arg5 : Memref sig .tc .vmem S8x400x1 .f32) (harg5 : arg5.IsWhole) (arg6 : Memref sig .tc .vmem S8x200x1024 .f32)
    (harg6 : arg6.IsWhole)
    (x0 : Vec F S13 .i32) (x1 : Vec F S129 .f32) (x2 : Vec F S200x1024 .i32) (x3 : Vec F S8x1024 .i32)
    (x4 : Vec F S8x400x1 .f32) :
    ∀ p ∈ (kernelRun0_A c i arg1 harg1 arg2 harg2 arg3 harg3 arg4 harg4 arg5 harg5 arg6 harg6 x0 x1 x2 x3 x4).1,
      ∀ x : p.1.shape.Idx,
      p.2 x = (fun y : S8x200x1024.Idx => cell (fun j => x0 (ix1 j)) (fun j => x1 (ix1 j)) (lateRow x3) x2 x4
        (i 0) (y 0) (y 1) (y 2)) (p.1.emb x) := by
  have hl : ![kernelRun0_A.sl.v2 c arg4 harg4 x3, kernelRun0_A.sl.v4 c arg4 harg4 x3, kernelRun0_A.sl.v6 c arg4 harg4 x3,
      kernelRun0_A.sl.v8 c arg4 harg4 x3, kernelRun0_A.sl.v10 c arg4 harg4 x3, kernelRun0_A.sl.v12 c arg4 harg4 x3,
      kernelRun0_A.sl.v14 c arg4 harg4 x3, kernelRun0_A.sl.v16 c arg4 harg4 x3] = lateRow x3 := by
    funext t
    fin_cases t
    · exact lateRow_eq arg4 harg4 x3 0 _ _
    · exact lateRow_eq arg4 harg4 x3 1 _ _
    · exact lateRow_eq arg4 harg4 x3 2 _ _
    · exact lateRow_eq arg4 harg4 x3 3 _ _
    · exact lateRow_eq arg4 harg4 x3 4 _ _
    · exact lateRow_eq arg4 harg4 x3 5 _ _
    · exact lateRow_eq arg4 harg4 x3 6 _ _
    · exact lateRow_eq arg4 harg4 x3 7 _ _
  have h1 : thWord arg1 (harg1.unread x0) = fun j => x0 (ix1 j) := by
    funext j; rw [thWord_eq, harg1.read_unread]
  have h2 : tbWord arg2 (harg2.unread x1) = fun j => x1 (ix1 j) := by
    funext j; rw [tbWord_eq, harg2.read_unread]
  unfold kernelRun0_A
  dsimp only
  intro p hp x
  have h := loop_cells _ c _ i arg1 harg1 arg2 harg2 arg3 harg3 arg4 harg4 arg5 harg5 arg6 harg6
    _ _ _ _ _ _ _ _ _ _ _ _ _ _ _ _ _ _ _ _ _ _ _ _ _ _ _ _ _ le_rfl p hp x
  rw [hl, h1, h2, harg3.read_unread, harg5.read_unread] at h
  exact h

/-- The block of a grid point, read at a place, is the cell there. -/
theorem out_apply (c : Dev nD) (i : grid0.Coords) (arg1 : Memref sig .tc .smem S13 .i32) (harg1 : arg1.IsWhole)
    (arg2 : Memref sig .tc .smem S129 .f32) (harg2 : arg2.IsWhole) (arg3 : Memref sig .tc .vmem S200x1024 .i32)
    (harg3 : arg3.IsWhole) (arg4 : Memref sig .tc .vmem S8x1024 .i32) (harg4 : arg4.IsWhole)
    (arg5 : Memref sig .tc .vmem S8x400x1 .f32) (harg5 : arg5.IsWhole) (arg6 : Memref sig .tc .vmem S8x200x1024 .f32)
    (harg6 : arg6.IsWhole)
    (x0 : Vec F S13 .i32) (x1 : Vec F S129 .f32) (x2 : Vec F S200x1024 .i32) (x3 : Vec F S8x1024 .i32)
    (x4 : Vec F S8x400x1 .f32)
    (t : Fin 8) (j : Fin 200) (l : Fin 1024) :
    out0_A_5 c i arg1 harg1 arg2 harg2 arg3 harg3 arg4 harg4 arg5 harg5 arg6 harg6 x0 x1 x2 x3 x4 (ix3 t j l)
      = cell (fun j => x0 (ix1 j)) (fun j => x1 (ix1 j)) (lateRow x3) x2 x4 (i 0) t j l := by
  unfold out0_A_5
  rw [View.read_writes_eq_canon _ _ _ (cover0_A_5 c i arg1 harg1 arg2 harg2 arg3 harg3 arg4 harg4 arg5 harg5 arg6 harg6 x0 x1 x2 x3 x4)]
  exact View.canon_apply_of_pieces (Val := Elt F) (e := .f32) (fun y : S8x200x1024.Idx =>
      cell (fun j => x0 (ix1 j)) (fun j => x1 (ix1 j)) (lateRow x3) x2 x4 (i 0) (y 0) (y 1) (y 2)) _ (run_cells c i arg1 harg1 arg2 harg2 arg3 harg3 arg4 harg4 arg5 harg5 arg6 harg6 x0 x1 x2 x3 x4) (ix3 t j l)
    (cover0_A_5 c i arg1 harg1 arg2 harg2 arg3 harg3 arg4 harg4 arg5 harg5 arg6 harg6 x0 x1 x2 x3 x4 (ix3 t j l))

end Cert.Bias

end
-- ==== Proof.Region.lean ====
module

public import proofs.«01_k».proof.Proof.Outs
public import Idealize.ShloMosaic.Lib.Pipeline.ValueKit

/-! The array the region leaves, as one function of the arrays it finds: place `(i, j, l)` holds the table entry chosen
by the difference of later time `i` and time `j` of lane `l`, plus the shifted position of row `i` and column `j`. -/

@[expose] public section
set_option maxRecDepth 16384
noncomputable section
namespace Cert.Bias
open Idealize.ShloMosaic hiding ix1 ix2 ix3 ix4 eq_ix3
open Idealize.ShloMosaic.TcCoe
open Idealize.SL Idealize.SL.RA
open Idealize.ShloMosaic.ValueIdx
open Cert.KernelIdeal Cert.KernelIdeal.Gen
variable {F : FTy → Type} [FloatOps F]

/-- The region's result at row `i`, column `j`, lane `l`, from the thresholds, the table, the times, the later times
    and the shifted positions. -/
def entry (th : Vec F S13 .i32) (tab : Vec F S129 .f32) (ts late : Vec F S200x1024 .i32) (ps : Vec F S8x400x1 .f32)
    (i j : Fin 200) (l : Fin 1024) : Elt F .f32 :=
  FloatOps.addf (chain (fun k => th (ix1 k)) (fun k => tab (ix1 k)) (IntOp.subi (late (ix2 i l)) (ts (ix2 j l))) 13)
    (ps (ix3 ⟨(199 - i.val) % 8, by omega⟩ ⟨(199 - i.val) / 8 * 8 + j.val, by omega⟩ 0))

variable (m : (ℓ : Loc nD τ sig) → Buf (Elt F) ℓ)

/-! ## Where the blocks lie -/

theorem index0 : ∀ t : Fin cfg0.N, win0_0.index t = ![0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![(grid0.coords t 0).val, 0, 0] :=
  (by decide +kernel : ∀ t : Fin grid0.N, _)

/-- The thresholds are one block. -/
theorem emb0 (t : Fin cfg0.N) (x : S13.Idx) : ((cfg0.win 0).blk t).view.emb x = x := by
  blk_ext [index0]

/-- The table is one block. -/
theorem emb1 (t : Fin cfg0.N) (x : S129.Idx) : ((cfg0.win 1).blk t).view.emb x = x := by
  blk_ext [index1]

/-- The times are one block. -/
theorem emb2 (t : Fin cfg0.N) (x : S200x1024.Idx) : ((cfg0.win 2).blk t).view.emb x = x := by
  blk_ext [index2]

/-- The shifted positions are one block. -/
theorem emb4 (t : Fin cfg0.N) (x : S8x400x1.Idx) : ((cfg0.win 4).blk t).view.emb x = x := by
  blk_ext [index4]

/-- Block `t` of the later times is rows `8 t` to `8 t + 7`. -/
theorem emb3 (t : Fin cfg0.N) (s : Fin 8) (l : Fin 1024) (h : (grid0.coords t 0).val * 8 + s.val < 200) :
    ((cfg0.win 3).blk t).view.emb (ix2 s l : S8x1024.Idx) = (ix2 ⟨(grid0.coords t 0).val * 8 + s.val, h⟩ l : S200x1024.Idx) := by
  blk_ext [index3]

/-- Block `t` of the result is rows `8 t` to `8 t + 7`. -/
theorem emb5 (t : Fin cfg0.N) (s : Fin 8) (j : Fin 200) (l : Fin 1024) (h : (grid0.coords t 0).val * 8 + s.val < 200) :
    ((cfg0.win 5).blk t).view.emb (ix3 s j l : S8x200x1024.Idx)
      = (ix3 ⟨(grid0.coords t 0).val * 8 + s.val, h⟩ j l : S200x200x1024.Idx) := by
  blk_ext [index5]

/-- The array the region leaves is `entry` of the arrays it finds, at every place. -/
theorem region_eq (c : Dev nD) : (dats m 0 c).arrAt 5 cfg0.N = fun y : S200x200x1024.Idx =>
    entry (V m c main_c) (V m c main_v0) (V m c main_v2) (V m c main_v5) (V m c main_v25) (y 0) (y 1) (y 2) := by
  refine (dats m 0 c).arrAt_eq_of_covers 5 _ (by decide +kernel) fun t hf y => ?_
  obtain ⟨s, j, l, rfl⟩ : ∃ (s : Fin 8) (j : Fin 200) (l : Fin 1024), y = (ix3 s j l : S8x200x1024.Idx) :=
    ⟨y 0, y 1, y 2, eq_ix3 (n0 := 8) (n1 := 200) (n2 := 1024) y⟩
  have h : (grid0.coords t 0).val * 8 + s.val < 200 := by
    have : (grid0.coords t 0).val < 25 := (grid0.coords t 0).isLt
    omega
  rw [emb5 t s j l h]
  show (dats m 0 c).after 5 t (ix3 s j l) = _
  rw [after0_5]
  refine (out_apply c (grid0.coords t) _ _ _ _ _ _ _ _ _ _ _ _ _ _ _ _ _ s j l).trans ?_
  have e0 : ∀ x, iblk m c 0 t x = V m c main_c x := fun x => congrArg (V m c main_c) (emb0 t x)
  have e1 : ∀ x, iblk m c 1 t x = V m c main_v0 x := fun x => congrArg (V m c main_v0) (emb1 t x)
  have e2 : ∀ x, iblk m c 2 t x = V m c main_v2 x := fun x => congrArg (V m c main_v2) (emb2 t x)
  have e4 : ∀ x, iblk m c 4 t x = V m c main_v25 x := fun x => congrArg (V m c main_v25) (emb4 t x)
  have e3 : ∀ l, iblk m c 3 t (ix2 s l : S8x1024.Idx) = V m c main_v5 (ix2 ⟨(grid0.coords t 0).val * 8 + s.val, h⟩ l : S200x1024.Idx) :=
    fun l => congrArg (V m c main_v5) (emb3 t s l h)
  unfold cell lateRow entry
  refine congrArg₂ FloatOps.addf ?_ (e4 _)
  refine (congrArg₂ (fun a b => chain a b _ 13) (funext fun k => e0 _) (funext fun k => e1 _)).trans ?_
  exact congrArg₂ (fun a b => chain _ _ (IntOp.subi a b) 13) (e3 l) (e2 _)

end Cert.Bias

end
-- ==== Proof.Before.lean ====
module

public import proofs.«01_k».proof.Proof.Region
public import Idealize.ShloMosaic.Lib.StableHlo.ReadAt

/-! The arrays that the lines before the region leave, at an index: the thresholds are the written list; the table is
the second argument as a list; the times are the first argument with its axes exchanged; later time `i` is time
`i + 1`, and the last one is the last time again; row `r` of the shifted positions is the third argument from place
`r` on. -/

@[expose] public section
set_option maxRecDepth 16384
set_option maxHeartbeats 1000000
noncomputable section
namespace Cert.Bias
open Idealize.ShloMosaic hiding ix1 ix2 ix3 ix4 eq_ix3
open Idealize.ShloMosaic.TcCoe
open Idealize.SL Idealize.SL.RA
open Idealize.ShloMosaic.ValueIdx
open Cert.KernelIdeal Cert.KernelIdeal.Gen
variable {F : FTy → Type} [FloatOps F]
variable (m : (ℓ : Loc nD τ sig) → Buf (Elt F) ℓ)

/-- The thresholds. -/
theorem V_th (c : Dev nD) (k : Fin 13) : V m c main_c (ix1 k) = lit0 k := by
  unfold V V0; simp only [List.flatten_cons, List.flatten_nil, List.append_nil]
  after_reads_at
  exact congrArg lit0 (Fin.ext (Shape.rowMajor_val_one _))

/-- The table. -/
theorem V_tab (c : Dev nD) (k : Fin 129) : V m c main_v0 (ix1 k) = m ((c : Thread nD τ).loc main_arg1) (ix2 k 0) := by
  unfold V V0; simp only [List.flatten_cons, List.flatten_nil, List.append_nil]
  after_reads_at
  rfl

/-- The times. -/
theorem V_ts (c : Dev nD) (j : Fin 200) (l : Fin 1024) :
    V m c main_v2 (ix2 j l) = m ((c : Thread nD τ).loc main_arg0) (ix2 l j) := by
  unfold V V0; simp only [List.flatten_cons, List.flatten_nil, List.append_nil]
  after_reads_at
  rfl

/-- The later times. -/
theorem V_late (c : Dev nD) (i : Fin 200) (l : Fin 1024) :
    V m c main_v5 (ix2 i l) = m ((c : Thread nD τ).loc main_arg0) (ix2 l ⟨min (i.val + 1) 199, by omega⟩) := by
  unfold V V0; simp only [List.flatten_cons, List.flatten_nil, List.append_nil]
  after_reads_at
  split
  · next h =>
    refine congrArg (fun k => m ((c : Thread nD τ).loc main_arg0) (ix2 l k)) (Fin.ext ?_)
    have h : i.val < 199 := h
    show 1 + i.val = min (i.val + 1) 199
    omega
  · next h =>
    refine congrArg (fun k => m ((c : Thread nD τ).loc main_arg0) (ix2 l k)) (Fin.ext ?_)
    have h : ¬ i.val < 199 := h
    show 199 + (i.val - 199) = min (i.val + 1) 199
    omega

/-- The shifted positions, where they are inside the argument. -/
theorem V_ps (c : Dev nD) (y : S8x400x1.Idx) (h : (y 0).val + (y 1).val < 399) :
    V m c main_v25 y = m ((c : Thread nD τ).loc main_arg2) (ix2 ⟨(y 0).val + (y 1).val, h⟩ 0) := by
  have hr : (y 0).val < 8 := (y 0).isLt
  unfold V V0; simp only [List.flatten_cons, List.flatten_nil, List.append_nil]
  after_reads_at
  after_reads_at
  after_reads_at
  repeat' split
  all_goals first
    | (exfalso; omega)
    | exact congrArg (fun k => m ((c : Thread nD τ).loc main_arg2) (ix2 k 0)) (Fin.ext (by
        show _ = (y 0).val + (y 1).val
        dsimp only
        omega))

end Cert.Bias

end
-- ==== Proof.Result.lean ====
module

public import proofs.«01_k».proof.Proof.Before

/-! What the whole program leaves in its result, from the three arguments: place `(b, 0, i, j)` holds the table entry
chosen by the difference of time `min (i + 1) 199` and time `j` of sequence `b`, plus the position at `199 - i + j`.
The lines after the region only move the sequences to the first axis and add an axis of size one. -/

@[expose] public section
set_option maxRecDepth 16384
noncomputable section
namespace Cert.Bias
open Idealize.ShloMosaic hiding ix1 ix2 ix3 ix4 eq_ix3
open Idealize.ShloMosaic.TcCoe
open Idealize.SL Idealize.SL.RA Idealize.SL.Sem
open Idealize.ShloMosaic.ValueIdx
open Cert.KernelIdeal Cert.KernelIdeal.Gen
variable {F : FTy → Type} [FloatOps F]

/-- The program's result for sequence `b`, row `i`, column `j`, from the timestamps, the time table and the position
    table. -/
def result (times : Vec F S1024x200 .i32) (tab : Vec F S129x1 .f32) (pos : Vec F S399x1 .f32) (b : Fin 1024)
    (i j : Fin 200) : Elt F .f32 :=
  FloatOps.addf (chain lit0 (fun k => tab (ix2 k 0))
      (IntOp.subi (times (ix2 b ⟨min (i.val + 1) 199, by omega⟩)) (times (ix2 b j))) 13)
    (pos (ix2 ⟨199 - i.val + j.val, by omega⟩ 0))

variable (m : (ℓ : Loc nD τ sig) → Buf (Elt F) ℓ)

/-- The region's array in terms of the arguments. -/
theorem entry_eq (c : Dev nD) (i j : Fin 200) (l : Fin 1024) :
    entry (V m c main_c) (V m c main_v0) (V m c main_v2) (V m c main_v5) (V m c main_v25) i j l
      = result (m ((c : Thread nD τ).loc main_arg0)) (m ((c : Thread nD τ).loc main_arg1))
          (m ((c : Thread nD τ).loc main_arg2)) l i j := by
  unfold entry result
  refine congrArg₂ FloatOps.addf ?_ ?_
  · refine (congrArg₂ (fun a b => chain a b _ 13) (funext fun k => V_th m c k) (funext fun k => V_tab m c k)).trans ?_
    exact congrArg₂ (fun a b => chain _ _ (IntOp.subi a b) 13) (V_late m c i l) (V_ts m c j l)
  · refine (V_ps m c _ (by show (199 - i.val) % 8 + ((199 - i.val) / 8 * 8 + j.val) < 399; omega)).trans ?_
    refine congrArg (fun k => m ((c : Thread nD τ).loc main_arg2) (ix2 k 0)) (Fin.ext ?_)
    show (199 - i.val) % 8 + ((199 - i.val) / 8 * 8 + j.val) = 199 - i.val + j.val
    omega

/-- The program's result buffer after the lines that follow the region. -/
theorem value_eq (c : Dev nD) :
    Pipeline.afterTail₀ cfgs (dats m) 0 (V0 m) [hostOps1] c main_v28 = fun y : S1024x1x200x200.Idx =>
      result (m ((c : Thread nD τ).loc main_arg0)) (m ((c : Thread nD τ).loc main_arg1))
        (m ((c : Thread nD τ).loc main_arg2)) (y 0) (y 2) (y 3) := by
  funext y
  unfold Pipeline.afterTail₀
  simp only [List.flatten_cons, List.flatten_nil, List.append_nil]
  after_reads_at
  have hw := Pipeline.withArrays_arr (cfgs 0).spec (by decide : Function.Injective (Pipeline.arrRef spec0)) c (V0 m c)
    (fun w => (dats m 0 c).arrAt w (cfgs 0).N) 5
  refine (congrFun hw (ix3 (y 2) (y 3) (y 0) : S200x200x1024.Idx)).trans ?_
  refine (congrFun (region_eq m c) (ix3 (y 2) (y 3) (y 0) : S200x200x1024.Idx)).trans ?_
  exact entry_eq m c (y 2) (y 3) (y 0)

variable (ρ : Dev nD → PrngReg)

/-- Every run of the program ends with `result` of the arguments in its result buffer, and the arguments unchanged. -/
theorem run_result : θ_run defs (onTc (τ := τ) (main (F := F))) ⟨m, fun _ => 0, ρ⟩ (fun r => ∀ c : Dev nD,
    r.2.mem ((c.tc : Thread nD τ).loc main_v28) = (fun y : S1024x1x200x200.Idx =>
      result (m ((c : Thread nD τ).loc main_arg0)) (m ((c : Thread nD τ).loc main_arg1))
        (m ((c : Thread nD τ).loc main_arg2)) (y 0) (y 2) (y 3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨((h c).2 main_v28 (Pipeline.mem_restRefs_of main_v28 (by decide) (by decide))).trans (value_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Bias

end
-- ==== Proof.Take.lean ====
module

public import Idealize.ShloMosaic.Lib.ValueIdx
public import Idealize.ShloMosaic.Lib.Pipeline.Value
public import Idealize.ShloMosaic.Lib.StableHlo.Predicate

/-! Reading a table of one column by a word, as the reference does it: a word that is a number in range is kept by the
wrapping of negative words, passes both range tests, and picks its own row. -/

@[expose] public section
noncomputable section
namespace Cert.Bias
open Idealize.ShloMosaic
open Idealize.ShloMosaic.ValueIdx

/-- The gather of one row of a one-column table, at a place whose start index is `z`: row `b`, if the word there is
    the number `b`. -/
theorem take_column {α : Type} {N : Nat} {si t : Shape} (d : GatherDims ⟨2, ![N, 1]⟩ si t)
    (hcoll : d.collapsedSliceDims = [0]) (hob : d.operandBatchingDims = []) (hsim : d.startIndexMap = [0])
    (x : (⟨2, ![N, 1]⟩ : Shape).Idx → α) (idx : IVec si 32) (y : t.Idx) (z : si.Idx) (hz : ∀ k, d.siIdx y k = z)
    (b : Fin N) (hN : N < 2 ^ 31) (hb : idx z = BitVec.ofNat 32 b.val) :
    Host.gather d x idx y = x (ix2 b 0) := by
  unfold Host.gather
  refine congrArg x (funext fun a => Fin.ext ?_)
  match a with
  | ⟨0, _⟩ =>
    have h0 : (0 : Fin 2) ∉ d.operandBatchingDims := by rw [hob]; exact List.not_mem_nil
    have h1 : (0 : Fin 2) ∉ d.sKept := by rw [GatherDims.mem_sKept, hcoll]; simp
    have h2 : (0 : Fin 2) ∈ d.startIndexMap := by rw [hsim]; exact List.mem_singleton.mpr rfl
    have h3 : d.sliceSizes 0 = 1 := d.slice_collapsed 0 (by rw [hcoll]; exact List.mem_singleton.mpr rfl)
    show d.start y idx 0 + d.batchCoord y 0 + d.offCoord y 0 = b.val
    rw [GatherDims.batchCoord_eq_zero _ _ _ h0, GatherDims.offCoord_eq_zero _ _ _ h1]
    unfold GatherDims.start
    rw [dif_pos h2, hz, hb, h3]
    show min (BitVec.ofNat 32 b.val).toInt.toNat (N - 1) + 0 + 0 = b.val
    have := b.isLt
    rw [BitVec.toInt_eq_toNat_of_lt (by rw [BitVec.toNat_ofNat]; omega), BitVec.toNat_ofNat]
    omega
  | ⟨1, _⟩ =>
    have h : ∀ u v : Fin 1, u.val = v.val := fun u v => by omega
    exact h _ _

/-- A number below `2 ^ 31` is not negative as a word, so the wrapping of negative words keeps it. -/
theorem keep_word (n N : Nat) (hn : n < 2 ^ 31) :
    Scalar.select (IntOp.cmpi .slt (BitVec.ofNat 32 n) 0#32) (IntOp.addi (BitVec.ofNat 32 n) (BitVec.ofNat 32 N))
      (BitVec.ofNat 32 n) = BitVec.ofNat 32 n := by
  have h : (BitVec.ofNat 32 n).slt 0#32 = false := by
    rw [BitVec.slt_eq_decide, BitVec.toInt_eq_toNat_of_lt (by rw [BitVec.toNat_ofNat]; omega)]
    simp only [BitVec.toInt_zero, decide_eq_false_iff_not]; omega
  show (if BitVec.ofBool ((BitVec.ofNat 32 n).slt 0#32) = 1#1 then _ else _) = _
  rw [h]
  exact if_neg (by decide)

/-- A number up to `N` passes both range tests. -/
theorem in_bounds (n N : Nat) (hN : N < 2 ^ 31) (hn : n ≤ N) :
    IntOp.andi (IntOp.cmpi .sge (BitVec.ofNat 32 n) 0#32) (IntOp.cmpi .sle (BitVec.ofNat 32 n) (BitVec.ofNat 32 N)) = 1#1 := by
  have h : ∀ k : Nat, k < 2 ^ 31 → (BitVec.ofNat 32 k).toInt = k := fun k hk => by
    rw [BitVec.toInt_eq_toNat_of_lt (by rw [BitVec.toNat_ofNat]; omega), BitVec.toNat_ofNat]
    omega
  have h1 : (0#32).sle (BitVec.ofNat 32 n) = true := by
    rw [BitVec.sle_eq_decide, h n (by omega)]; simp
  have h2 : (BitVec.ofNat 32 n).sle (BitVec.ofNat 32 N) = true := by
    rw [BitVec.sle_eq_decide, h n (by omega), h N hN]; simpa using hn
  show BitVec.ofBool ((0#32).sle (BitVec.ofNat 32 n)) &&& BitVec.ofBool ((BitVec.ofNat 32 n).sle (BitVec.ofNat 32 N)) = 1#1
  rw [h1, h2]; rfl

end Cert.Bias

end
-- ==== Proof.Reference.lean ====
module

public import proofs.«01_k».proof.Proof.Gen.ReferenceIdeal.Read
public import proofs.«01_k».proof.Proof.Take
public import Idealize.ShloMosaic.Lib.ReduceAll

/-! The reference's result at an index: place `(b, 0, i, j)` is the position at `j - i + 199` plus the time table's
entry at the clamped bucket of the difference of time `min (i + 1) 199` and time `j`. -/

@[expose] public section
set_option maxRecDepth 8192
set_option maxHeartbeats 1000000
noncomputable section
namespace Cert.Bias
open Idealize.ShloMosaic
open Idealize.ShloMosaic.ValueIdx
open Cert.ReferenceIdeal Cert.ReferenceIdeal.Read
variable {F : FTy → Type} [FloatOps F]

/-! ## The position part -/

/-- The word `j - i + 199`. -/
theorem pos_word (y : S200x200.Idx) : val_main_v7 (F := F) y = BitVec.ofNat 32 (199 - (y 0).val + (y 1).val) := by
  have h0 : (y 0).val < 200 := (y 0).isLt
  have h1 : (y 1).val < 200 := (y 1).isLt
  rw [val_main_v7_apply, val_main_v5_apply, val_main_v3_apply, val_main_v1_apply, val_main_v0_apply, val_main_v4_apply,
    val_main_v2_apply, val_main_v0_apply, val_main_v6_apply, val_main_c_apply]
  show BitVec.ofNat 32 (y 1).val - BitVec.ofNat 32 (y 0).val + 199#32 = _
  apply BitVec.eq_of_toNat_eq
  simp only [BitVec.toNat_add, BitVec.toNat_sub, BitVec.toNat_ofNat]
  omega

/-- The start index of the position gather. -/
theorem pos_start (z : S200x200x1.Idx) :
    val_main_call0_v5 (F := F) z = BitVec.ofNat 32 (199 - (z 0).val + (z 1).val) := by
  have h0 : (z 0).val < 200 := (z 0).isLt
  have h1 : (z 1).val < 200 := (z 1).isLt
  rw [val_main_call0_v5_apply, val_main_call0_v4_apply, val_main_call0_v1_apply, val_main_call0_v3_apply,
    val_main_call0_v0_apply, val_main_call0_c_apply, val_main_call0_v2_apply, val_main_call0_c_0_apply, pos_word]
  exact keep_word _ 399 (by show 199 - (z 0).val + (z 1).val < 2 ^ 31; omega)

/-- Every start index of the position gather is in range. -/
theorem pos_mask (y : S200x200.Idx) : val_main_call0_v12 (F := F) y = 1#1 := by
  refine Host.reduce_andi_one _ _ _ _ _ rfl (fun z => ?_)
  have h0 : (z 0).val < 200 := (z 0).isLt
  have h1 : (z 1).val < 200 := (z 1).isLt
  rw [val_main_call0_v11_apply, val_main_call0_v7_apply, val_main_call0_v10_apply, val_main_call0_v6_apply,
    val_main_call0_c_2_apply, val_main_call0_v9_apply, val_main_call0_v8_apply, val_main_call0_c_1_apply, pos_start]
  exact in_bounds _ 398 (by decide) (by omega)

/-- The position part at row `i` and column `j`. -/
theorem pos_part (x2 : Vec F S399x1 .f32) (i j : Fin 200) :
    val_main_v9 (F := F) x2 (ix2 i j) = x2 (ix2 ⟨199 - i.val + j.val, by omega⟩ 0) := by
  have e : idx_main_v9 (ix2 i j) = ix3 i j 0 := by
    funext a
    match a with
    | ⟨0, _⟩ => exact Fin.ext (by show (i.val * 200 + j.val) / 200 = i.val; omega)
    | ⟨1, _⟩ => exact Fin.ext (by show (i.val * 200 + j.val) / 1 % 200 = j.val; omega)
    | ⟨2, _⟩ => rfl
  rw [val_main_v9_apply, e, val_main_v8_apply, val_main_call0_v14_apply, pos_mask]
  show val_main_call0_v13 (F := F) x2 (ix3 i j 0) = _
  unfold val_main_call0_v13
  refine take_column _ rfl rfl rfl x2 _ (ix3 i j 0) (ix3 i j 0) (fun k => ?_) ⟨199 - i.val + j.val, by omega⟩ (by decide)
    (pos_start (F := F) (ix3 i j 0))
  have hk : k.val < 1 := k.isLt
  funext a
  match a with
  | ⟨0, _⟩ => rfl
  | ⟨1, _⟩ => rfl
  | ⟨2, _⟩ => exact Fin.ext (by show k.val = 0; omega)

/-! ## The time part -/

/-- The word that the reference looks up for the difference `w`: the floor of the logarithm of one more than its
    positive part, as a word, clamped to `0 … 128`. -/
def clampWord (w : BitVec 32) : BitVec 32 :=
  IntOp.minsi 128#32 (IntOp.maxsi 0#32
    (FloatOps.fptosi 32 (FloatOps.hostUnary .floor (FloatOps.hostUnary .log1p
      (FloatOps.sitofp (F := F) .f32 (IntOp.maxsi w 0#32))))))

/-- A word clamped to `0 … 128` is a number up to 128. -/
theorem clamp_le (v : BitVec 32) : (IntOp.minsi 128#32 (IntOp.maxsi 0#32 v)).toNat ≤ 128 := by
  unfold IntOp.minsi IntOp.maxsi
  simp only [BitVec.slt_eq_decide, decide_eq_true_eq]
  have h := BitVec.toInt_eq_toNat_cond v
  have e : (128#32).toInt = 128 := by decide
  have e0 : (0#32).toInt = 0 := by decide
  rw [e0]
  split
  · simp
  · rw [e]
    split <;> simp_all
    omega

/-- The clamped word is the word of its number. -/
theorem clampWord_ofNat (w : BitVec 32) :
    clampWord (F := F) w = BitVec.ofNat 32 (clampWord (F := F) w).toNat := by
  rw [BitVec.ofNat_toNat, BitVec.setWidth_eq]

/-- The timestamps with the last one repeated: place `k` of 201 is time `min k 199`. -/
theorem padded_eq (x0 : Vec F S1024x200 .i32) (y : S1024x201.Idx) (b : Fin 1024) (k : Fin 200) (hb : (y 0).val = b.val)
    (hk : k.val = min (y 1).val 199) : val_main_v11 (F := F) x0 y = x0 (ix2 b k) := by
  have hy : (y 1).val < 201 := (y 1).isLt
  unfold val_main_v11
  by_cases h : (y 1).val < 200
  · refine concatenate_pair_apply_left (s₁ := S1024x200) 1 _ _ _ y rfl (ix2 b k) (fun a => ?_)
    match a with
    | ⟨0, _⟩ => exact hb.symm
    | ⟨1, _⟩ => show k.val = (y 1).val; omega
  · refine (concatenate_pair_apply_right (s₁ := S1024x200) (s₂ := S1024x1) 1 _ _ _ y rfl rfl (ix2 b 0) (fun a ha => ?_) ?_).trans ?_
    · match a with
      | ⟨0, _⟩ => exact hb.symm
      | ⟨1, _⟩ => exact absurd rfl ha
    · show 0 + 200 = (y 1).val
      omega
    · rw [val_main_v10_apply]
      refine congrArg x0 (funext fun a => ?_)
      match a with
      | ⟨0, _⟩ => rfl
      | ⟨1, _⟩ => exact Fin.ext (by show _ = k.val; rw [hk]; show 199 = _; omega)

/-- The difference of the reference at sequence `b`, row `i`, column `j`. -/
theorem diff_eq (x0 : Vec F S1024x200 .i32) (b : Fin 1024) (i j : Fin 200) :
    val_main_v18 (F := F) x0 (ix3 b i j)
      = IntOp.subi (x0 (ix2 b ⟨min (i.val + 1) 199, by omega⟩)) (x0 (ix2 b j)) := by
  rw [val_main_v18_apply, val_main_v16_apply, val_main_v13_apply, val_main_v12_apply, val_main_v17_apply,
    val_main_v15_apply, val_main_v14_apply]
  refine congrArg₂ IntOp.subi (padded_eq x0 _ b _ rfl ?_) (padded_eq x0 _ b j rfl ?_)
  · show min (i.val + 1) 199 = min (1 + i.val) 199
    omega
  · show j.val = min j.val 199
    omega

/-- The bucket word at an index. -/
theorem bucket_word (x0 : Vec F S1024x200 .i32) (y : S1024x200x200.Idx) :
    val_main_v25 (F := F) x0 y = clampWord (F := F) (val_main_v18 (F := F) x0 y) := by
  rw [val_main_v25_apply, val_main_call1_v4_apply, val_main_call1_v3_apply, val_main_c_2_apply, val_main_call1_v2_apply,
    val_main_call1_v1_apply, val_main_call1_v0_apply, val_main_c_1_apply, val_main_v24_apply, val_main_v23_apply,
    val_main_v22_apply, val_main_v21_apply, val_main_v20_apply, val_main_v19_apply, val_main_c_0_apply]
  rfl

/-- The start index of the time gather. -/
theorem time_start (x0 : Vec F S1024x200 .i32) (z : S1024x200x200x1.Idx) :
    val_main_call2_v5 (F := F) x0 z
      = BitVec.ofNat 32 (clampWord (F := F) (val_main_v18 (F := F) x0 (idx_main_call2_v5 z))).toNat := by
  have h := clamp_le (FloatOps.fptosi 32 (FloatOps.hostUnary .floor (FloatOps.hostUnary .log1p
      (FloatOps.sitofp (F := F) .f32 (IntOp.maxsi (val_main_v18 (F := F) x0 (idx_main_call2_v5 z)) 0#32)))))
  rw [val_main_call2_v5_apply, val_main_call2_v4_apply, val_main_call2_v1_apply, val_main_call2_v3_apply,
    val_main_call2_v0_apply, val_main_call2_c_apply, val_main_call2_v2_apply, val_main_call2_c_0_apply, bucket_word]
  have hk := keep_word (clampWord (F := F) (val_main_v18 (F := F) x0 (idx_main_call2_v5 z))).toNat 129
    (Nat.lt_of_le_of_lt h (by decide))
  rw [BitVec.ofNat_toNat, BitVec.setWidth_eq] at hk ⊢
  exact hk

/-- Every start index of the time gather is in range. -/
theorem time_mask (x0 : Vec F S1024x200 .i32) (y : S1024x200x200.Idx) : val_main_call2_v12 (F := F) x0 y = 1#1 := by
  refine Host.reduce_andi_one _ _ _ _ _ rfl (fun z => ?_)
  rw [val_main_call2_v11_apply, val_main_call2_v7_apply, val_main_call2_v10_apply, val_main_call2_v6_apply,
    val_main_call2_c_2_apply, val_main_call2_v9_apply, val_main_call2_v8_apply, val_main_call2_c_1_apply, time_start]
  exact in_bounds _ 128 (by decide) (clamp_le _)

/-- The time part at sequence `b`, row `i`, column `j`. -/
theorem time_part (x0 : Vec F S1024x200 .i32) (x1 : Vec F S129x1 .f32) (b : Fin 1024) (i j : Fin 200) :
    val_main_v27 (F := F) x0 x1 (ix3 b i j)
      = x1 (ix2 ⟨(clampWord (F := F) (val_main_v18 (F := F) x0 (ix3 b i j))).toNat, Nat.lt_succ_of_le (clamp_le _)⟩ 0) := by
  have e : idx_main_v27 (ix3 b i j) = ix4 b i j 0 := by
    funext a
    match a with
    | ⟨0, _⟩ => exact Fin.ext (by show ((b.val * 200 + i.val) * 200 + j.val) / 40000 = b.val; omega)
    | ⟨1, _⟩ => exact Fin.ext (by show ((b.val * 200 + i.val) * 200 + j.val) / 200 % 200 = i.val; omega)
    | ⟨2, _⟩ => exact Fin.ext (by show ((b.val * 200 + i.val) * 200 + j.val) / 1 % 200 = j.val; omega)
    | ⟨3, _⟩ => rfl
  rw [val_main_v27_apply, e, val_main_v26_apply, val_main_call2_v14_apply, time_mask]
  show val_main_call2_v13 (F := F) x0 x1 (ix4 b i j 0) = _
  unfold val_main_call2_v13
  have hz : idx_main_call2_v5 (ix4 b i j 0) = ix3 b i j := by
    funext a
    match a with
    | ⟨0, _⟩ => rfl
    | ⟨1, _⟩ => rfl
    | ⟨2, _⟩ => rfl
  refine take_column _ rfl rfl rfl x1 _ (ix4 b i j 0) (ix4 b i j 0) (fun k => ?_) _ (by decide)
    ((time_start (F := F) x0 (ix4 b i j 0)).trans (by rw [hz]))
  have hk : k.val < 1 := k.isLt
  funext a
  match a with
  | ⟨0, _⟩ => rfl
  | ⟨1, _⟩ => rfl
  | ⟨2, _⟩ => rfl
  | ⟨3, _⟩ => exact Fin.ext (by show k.val = 0; omega)

/-- The reference's result at sequence `b`, row `i`, column `j`: the position part plus the time part. -/
theorem reference_eq (x0 : Vec F S1024x200 .i32) (x1 : Vec F S129x1 .f32) (x2 : Vec F S399x1 .f32)
    (y : S1024x1x200x200.Idx) (b : Fin 1024) (i j : Fin 200) (hb : y 0 = b) (hi : y 2 = i) (hj : y 3 = j) :
    val_main_v31 (F := F) x0 x1 x2 y
      = FloatOps.addf (x2 (ix2 ⟨199 - i.val + j.val, by omega⟩ 0))
          (x1 (ix2 ⟨(clampWord (F := F) (IntOp.subi (x0 (ix2 b ⟨min (i.val + 1) 199, by omega⟩)) (x0 (ix2 b j)))).toNat,
            Nat.lt_succ_of_le (clamp_le _)⟩ 0)) := by
  have e : idx_main_v31 y = ix3 b i j := by
    funext a
    match a with
    | ⟨0, _⟩ => exact hb
    | ⟨1, _⟩ => exact hi
    | ⟨2, _⟩ => exact hj
  have e' : idx_main_v28 (idx_main_v29 (ix3 b i j)) = ix2 i j := by
    funext a
    match a with
    | ⟨0, _⟩ => rfl
    | ⟨1, _⟩ => rfl
  have t := time_part (F := F) x0 x1 b i j
  simp only [diff_eq] at t
  rw [val_main_v31_apply, e, val_main_v30_apply, val_main_v29_apply, val_main_v28_apply, e']
  exact congrArg₂ FloatOps.addf (pos_part x2 i j) t

end Cert.Bias

end
-- ==== Proof.Bucket.lean ====
/-
  The bucket of a time difference, as mathematics: no program is named here.
  The reference computes the bucket of a difference `d` as the floor of `log (1 + d)`; the kernel compares `d` with
  thirteen whole-number edges and keeps the table entry of the last edge that `d` reaches. This module states the edges
  and proves that, for `0 ≤ d < 1000000`, both name the same bucket.
-/
module

public import Idealize.ShloMosaic.PureOps.Ideal
public import Mathlib.Analysis.Complex.Exponential
public import Mathlib.Analysis.SpecialFunctions.Log.Basic

@[expose] public section

noncomputable section

namespace Cert.Bias

open Idealize.ShloMosaic

/-- The thirteen edges: edge `k` is the least whole number `d` with `log (1 + d) ≥ k + 1`. -/
def edge : Fin 13 → ℤ := ![2, 7, 20, 54, 148, 403, 1096, 2980, 8103, 22026, 59874, 162754, 442413]

/-- The value that comparing a difference with the edges in turn ends with: entry 0 of `tab`, replaced by entry `k + 1`
    at each edge `k` that `d` reaches. -/
def lastReached {α : Type} (tab : ℕ → α) (d : ℤ) : ℕ → α
  | 0 => tab 0
  | k + 1 => if h : k < 13 then (if edge ⟨k, h⟩ ≤ d then tab (k + 1) else lastReached tab d k) else lastReached tab d k

/-- The reference's bucket of a difference that is not negative: the floor of `log (1 + d)`. -/
def bucket (d : ℤ) : ℕ := ⌊Real.log (1 + (d : ℝ))⌋.toNat

/-- `log (1 + d)` lies between two whole numbers when `1 + d` lies between the powers of `e`. -/
theorem floor_log_eq (d : ℤ) (k : ℕ) (lo : Real.exp 1 ^ k ≤ 1 + (d : ℝ)) (hi : 1 + (d : ℝ) < Real.exp 1 ^ (k + 1)) :
    ⌊Real.log (1 + (d : ℝ))⌋ = (k : ℤ) := by
  have hpos : (0 : ℝ) < 1 + (d : ℝ) := lt_of_lt_of_le (pow_pos (Real.exp_pos 1) k) lo
  rw [Int.floor_eq_iff]
  constructor
  · rw [Real.le_log_iff_exp_le hpos, Int.cast_natCast, ← Real.exp_one_pow]
    exact_mod_cast lo
  · rw [Real.log_lt_iff_lt_exp hpos]
    have : ((k : ℤ) : ℝ) + 1 = ((k + 1 : ℕ) : ℝ) := by push_cast; ring
    rw [this, ← Real.exp_one_pow]
    exact hi

/-- The number `e` to within `1.3e-11`: its series to fourteen terms. -/
theorem exp_one_near : |Real.exp 1 - 8463398743 / 3113510400| ≤ 15 / (87178291200 * 14) := by
  have h := Real.exp_bound (x := 1) (by norm_num) (n := 14) (by norm_num)
  norm_num [Finset.sum_range_succ, Nat.factorial] at h ⊢
  exact h

/-- Ten digits of `e` from above. -/
theorem exp_one_lt : Real.exp 1 < 2.7182818286 := by
  have h := (abs_le.mp exp_one_near).2
  norm_num at h ⊢; linarith

/-- Ten digits of `e` from below. -/
theorem lt_exp_one : (2.7182818283 : ℝ) < Real.exp 1 := by
  have h := (abs_le.mp exp_one_near).1
  norm_num at h ⊢; linarith

/-- A power of `e` is at most a number that the same power of an upper bound of `e` is at most. -/
theorem exp_pow_le (k : ℕ) (x : ℝ) (h : (2.7182818286 : ℝ) ^ k ≤ x) : Real.exp 1 ^ k ≤ x :=
  (pow_le_pow_left₀ (Real.exp_pos 1).le exp_one_lt.le k).trans h

/-- A number below a power of a lower bound of `e` is below that power of `e`. -/
theorem lt_exp_pow (k : ℕ) (x : ℝ) (h : x < (2.7182818283 : ℝ) ^ k) : x < Real.exp 1 ^ k :=
  h.trans_le (pow_le_pow_left₀ (by norm_num) lt_exp_one.le k)

/-- The floor of `log (1 + d)`, from whole-number bounds on `d`. -/
theorem floor_log_of_bounds (d : ℤ) (k : ℕ) (lo hi : ℤ) (hlo : lo ≤ d) (hhi : d < hi)
    (h1 : (2.7182818286 : ℝ) ^ k ≤ 1 + (lo : ℝ)) (h2 : (hi : ℝ) < (2.7182818283 : ℝ) ^ (k + 1)) :
    ⌊Real.log (1 + (d : ℝ))⌋ = (k : ℤ) := by
  have a : (lo : ℝ) ≤ (d : ℝ) := by exact_mod_cast hlo
  have b : 1 + (d : ℝ) ≤ (hi : ℝ) := by
    have : (1 + d : ℤ) ≤ hi := by omega
    exact_mod_cast this
  exact floor_log_eq d k (exp_pow_le k _ (by linarith)) (lt_exp_pow (k + 1) _ (by linarith))

/-- THE BUCKET: below a million the last edge reached is edge number `⌊log (1 + d)⌋`, so the entry kept is the entry of the
    reference's bucket, and that bucket is at most 13. -/
theorem lastReached_eq {α : Type} (tab : ℕ → α) (d : ℤ) (h0 : 0 ≤ d) (h1 : d < 1000000) :
    lastReached tab d 13 = tab (bucket d) ∧ bucket d ≤ 13 ∧ ⌊Real.log (1 + (d : ℝ))⌋ = (bucket d : ℤ) := by
  have key : ∀ k : ℕ, k ≤ 13 → ⌊Real.log (1 + (d : ℝ))⌋ = (k : ℤ) → lastReached tab d 13 = tab k →
      lastReached tab d 13 = tab (bucket d) ∧ bucket d ≤ 13 ∧ ⌊Real.log (1 + (d : ℝ))⌋ = (bucket d : ℤ) := by
    intro k hk e hl
    have hb : bucket d = k := by unfold bucket; rw [e]; rfl
    exact ⟨by rw [hl, hb], by omega, by rw [e, hb]⟩
  have step : ∀ (k : ℕ) (lo hi : ℤ), k ≤ 13 → lo ≤ d → d < hi → (2.7182818286 : ℝ) ^ k ≤ 1 + (lo : ℝ) →
      (hi : ℝ) < (2.7182818283 : ℝ) ^ (k + 1) → lastReached tab d 13 = tab k → _ :=
    fun k lo hi hk hlo hhi p q => key k hk (floor_log_of_bounds d k lo hi hlo hhi p q)
  simp only [lastReached, edge] at step ⊢
  simp at step ⊢
  by_cases c13 : 442413 ≤ d
  · exact step 13 442413 1000000 (by omega) c13 h1 (by norm_num) (by norm_num) (by simp [c13])
  by_cases c12 : 162754 ≤ d
  · exact step 12 162754 442413 (by omega) c12 (by omega) (by norm_num) (by norm_num) (by simp [c13, c12])
  by_cases c11 : 59874 ≤ d
  · exact step 11 59874 162754 (by omega) c11 (by omega) (by norm_num) (by norm_num) (by simp [c13, c12, c11])
  by_cases c10 : 22026 ≤ d
  · exact step 10 22026 59874 (by omega) c10 (by omega) (by norm_num) (by norm_num) (by simp [c13, c12, c11, c10])
  by_cases c9 : 8103 ≤ d
  · exact step 9 8103 22026 (by omega) c9 (by omega) (by norm_num) (by norm_num) (by simp [c13, c12, c11, c10, c9])
  by_cases c8 : 2980 ≤ d
  · exact step 8 2980 8103 (by omega) c8 (by omega) (by norm_num) (by norm_num) (by simp [c13, c12, c11, c10, c9, c8])
  by_cases c7 : 1096 ≤ d
  · exact step 7 1096 2980 (by omega) c7 (by omega) (by norm_num) (by norm_num) (by simp [c13, c12, c11, c10, c9, c8, c7])
  by_cases c6 : 403 ≤ d
  · exact step 6 403 1096 (by omega) c6 (by omega) (by norm_num) (by norm_num)
      (by simp [c13, c12, c11, c10, c9, c8, c7, c6])
  by_cases c5 : 148 ≤ d
  · exact step 5 148 403 (by omega) c5 (by omega) (by norm_num) (by norm_num)
      (by simp [c13, c12, c11, c10, c9, c8, c7, c6, c5])
  by_cases c4 : 54 ≤ d
  · exact step 4 54 148 (by omega) c4 (by omega) (by norm_num) (by norm_num)
      (by simp [c13, c12, c11, c10, c9, c8, c7, c6, c5, c4])
  by_cases c3 : 20 ≤ d
  · exact step 3 20 54 (by omega) c3 (by omega) (by norm_num) (by norm_num)
      (by simp [c13, c12, c11, c10, c9, c8, c7, c6, c5, c4, c3])
  by_cases c2 : 7 ≤ d
  · exact step 2 7 20 (by omega) c2 (by omega) (by norm_num) (by norm_num)
      (by simp [c13, c12, c11, c10, c9, c8, c7, c6, c5, c4, c3, c2])
  by_cases c1 : 2 ≤ d
  · exact step 1 2 7 (by omega) c1 (by omega) (by norm_num) (by norm_num)
      (by simp [c13, c12, c11, c10, c9, c8, c7, c6, c5, c4, c3, c2, c1])
  · exact step 0 0 2 (by omega) h0 (by omega) (by norm_num) (by norm_num)
      (by simp [c13, c12, c11, c10, c9, c8, c7, c6, c5, c4, c3, c2, c1])

end Cert.Bias

end
-- ==== Proof.Equation.lean ====
module

public import proofs.«01_k».proof.Proof.Result
public import proofs.«01_k».proof.Proof.Reference
public import proofs.«01_k».proof.Proof.Bucket
public import proofs.«01_k».proof.Proof.Gen.Pre_in_range
public import Idealize.ShloMosaic.Lib.ReduceAll

/-! The two programs' results are equal. For timestamps in range every difference lies strictly between minus a million
and a million. The kernel's comparisons with the thirteen edges then choose the table entry that the reference's floor of
a logarithm names, and the two sums differ only in the order of their terms. -/

@[expose] public section
noncomputable section
namespace Cert.Bias
open Idealize.ShloMosaic hiding ix1 ix2 ix3 ix4 eq_ix3
open Idealize.ShloMosaic.ValueIdx

/-- A table of 129 entries at every natural number: entry 0 past its end. -/
def extend {α : Type} (tab : Fin 129 → α) (n : ℕ) : α := if h : n < 129 then tab ⟨n, h⟩ else tab 0

/-- Within the table the extension is the table. -/
theorem extend_eq {α : Type} (tab : Fin 129 → α) (n : ℕ) (h : n < 129) : extend tab n = tab ⟨n, h⟩ := dif_pos h

/-- A signed comparison of words is the comparison of their values. -/
theorem select_sge {α : Type} (w v : BitVec 32) (a b : α) :
    Scalar.select (IntOp.cmpi .sge w v) a b = if v.toInt ≤ w.toInt then a else b := by
  show (if BitVec.ofBool (v.sle w) = 1#1 then a else b) = _
  rw [BitVec.sle_eq_decide]
  by_cases h : v.toInt ≤ w.toInt
  · rw [if_pos h, decide_eq_true h]; rfl
  · rw [if_neg h, decide_eq_false h]; rfl

/-- The kernel's comparisons of words are the comparisons of whole numbers with the edges. -/
theorem chain_eq {α : Type} (th : Fin 13 → BitVec 32) (hth : ∀ k, (th k).toInt = edge k) (tab : Fin 129 → α)
    (w : BitVec 32) : ∀ k, chain th tab w k = lastReached (extend tab) w.toInt k
  | 0 => (extend_eq tab 0 (by decide)).symm
  | k + 1 => by
      unfold chain lastReached
      by_cases h : k < 13
      · rw [dif_pos h, dif_pos h, select_sge, hth, chain_eq th hth tab w k, extend_eq tab (k + 1) (by omega)]
      · rw [dif_neg h, dif_neg h, chain_eq th hth tab w k]

/-- A difference below zero reaches no edge. -/
theorem lastReached_neg {α : Type} (tab : ℕ → α) (d : ℤ) (h : d < 0) : ∀ k, lastReached tab d k = tab 0
  | 0 => rfl
  | k + 1 => by
      unfold lastReached
      have pos : ∀ i : Fin 13, 0 ≤ edge i := by decide
      split
      · next hk => rw [if_neg (by have := pos ⟨k, hk⟩; omega), lastReached_neg tab d h k]
      · exact lastReached_neg tab d h k

/-- No negative difference changes the entry: the comparisons choose the bucket of the difference raised to zero. -/
theorem lastReached_bucket {α : Type} (tab : ℕ → α) (d : ℤ) (h : d < 1000000) :
    lastReached tab d 13 = tab (bucket (max d 0)) := by
  by_cases h0 : 0 ≤ d
  · rw [max_eq_left h0]; exact (lastReached_eq tab d h0 h).1
  · have hz : bucket 0 = 0 := by simp [bucket]
    rw [max_eq_right (by omega), hz]
    exact lastReached_neg tab d (by omega) 13

/-- The larger of two words has the larger value. -/
theorem toInt_maxsi (w v : BitVec 32) : (IntOp.maxsi w v).toInt = max w.toInt v.toInt := by
  show (if v.slt w then w else v).toInt = _
  rw [BitVec.slt_eq_decide]
  by_cases h : v.toInt < w.toInt
  · rw [decide_eq_true h, if_pos rfl, max_eq_left h.le]
  · rw [decide_eq_false h, if_neg (by decide), max_eq_right (by omega)]

/-- Clamping a small number to `0 … 128` keeps it. -/
theorem clamp_small (n : ℕ) (h : n ≤ 13) : (IntOp.minsi 128#32 (IntOp.maxsi 0#32 (BitVec.ofInt 32 (n : ℤ)))).toNat = n := by
  have all : ∀ n : Fin 14, (IntOp.minsi 128#32 (IntOp.maxsi 0#32 (BitVec.ofInt 32 (n.val : ℤ)))).toNat = n.val := by decide
  exact all ⟨n, by omega⟩

/-- The reference's bucket word of a difference below a million is the bucket of the difference raised to zero. -/
theorem clampWord_eq (w : BitVec 32) (h : w.toInt < 1000000) :
    (clampWord (F := Ideal) w).toNat = bucket (max w.toInt 0) := by
  obtain ⟨-, hb, hf⟩ := lastReached_eq (fun n => n) (max w.toInt 0) (le_max_right _ _) (by omega)
  have hpos : ¬ (1 + ((max w.toInt 0 : ℤ) : ℝ)) ≤ 0 := by
    have : (0 : ℝ) ≤ ((max w.toInt 0 : ℤ) : ℝ) := by exact_mod_cast le_max_right w.toInt 0
    linarith
  have hs : FloatOps.sitofp (F := Ideal) .f32 (IntOp.maxsi w 0#32) = (((max w.toInt 0 : ℤ) : ℝ) : EReal) := by
    show ((((IntOp.maxsi w 0#32).toInt : ℤ) : ℝ) : EReal) = _
    rw [toInt_maxsi]; rfl
  have hl : Ideal.log1p (((max w.toInt 0 : ℤ) : ℝ) : EReal) = ((Real.log (1 + ((max w.toInt 0 : ℤ) : ℝ)) : ℝ) : EReal) := by
    unfold Ideal.log1p
    rw [show (1 : EReal) + (((max w.toInt 0 : ℤ) : ℝ) : EReal) = ((1 + ((max w.toInt 0 : ℤ) : ℝ) : ℝ) : EReal) by
      rw [EReal.coe_add]; rfl]
    show (if _ then _ else _) = _
    rw [if_neg hpos]
  have hfl : Ideal.liftRound Int.floor ((Real.log (1 + ((max w.toInt 0 : ℤ) : ℝ)) : ℝ) : EReal)
      = (((bucket (max w.toInt 0) : ℤ) : ℝ) : EReal) := by
    show (((⌊Real.log (1 + ((max w.toInt 0 : ℤ) : ℝ))⌋ : ℤ) : ℝ) : EReal) = _
    rw [hf]
  have hw : Ideal.fptosi 32 (((bucket (max w.toInt 0) : ℤ) : ℝ) : EReal) = BitVec.ofInt 32 (bucket (max w.toInt 0) : ℤ) := by
    unfold Ideal.fptosi
    rw [Ideal.toIntClamped_coe, Int.floor_intCast, Int.ceil_intCast, ite_self]
    refine congrArg (BitVec.ofInt 32) ?_
    norm_num
    omega
  unfold clampWord
  rw [hs, Ideal.hostUnary_log1p_def, hl, Ideal.hostUnary_floor_def, hfl]
  show (IntOp.minsi 128#32 (IntOp.maxsi 0#32 (Ideal.fptosi 32 _))).toNat = _
  rw [hw]
  exact clamp_small _ hb

/-- What the precondition says: every timestamp is at least zero and below a million. -/
theorem times_in_range (x0 : Vec Ideal ⟨2, ![1024, 200]⟩ .i32) (x1 : Vec Ideal ⟨2, ![129, 1]⟩ .f32)
    (x2 : Vec Ideal ⟨2, ![399, 1]⟩ .f32) (h : Cert.Pre_in_range.fn (F := Ideal) x0 x1 x2 = fun _ => 1#1)
    (z : Shape.Idx ⟨2, ![1024, 200]⟩) : 0 ≤ (x0 z).toInt ∧ (x0 z).toInt < 1000000 := by
  have e : IntOp.andi (IntOp.cmpi .sge (x0 z) 0#32) (IntOp.cmpi .slt (x0 z) 1000000#32) = 1#1 :=
    Host.reduce_andi_all _ _ _ _ _ (congrFun h (fun a => a.elim0)) z
  obtain ⟨e1, e2⟩ := IntOp.andi_eq_one.1 e
  have t : ∀ b : Bool, BitVec.ofBool b = 1#1 → b = true := by decide
  have h1 : (0#32).sle (x0 z) = true := t _ e1
  have h2 : (x0 z).slt 1000000#32 = true := t _ e2
  rw [BitVec.sle_eq_decide, decide_eq_true_eq] at h1
  rw [BitVec.slt_eq_decide, decide_eq_true_eq] at h2
  exact ⟨h1, h2⟩

/-- Two words in range have a difference below a million. -/
theorem subi_lt (a b : BitVec 32) (ha : 0 ≤ a.toInt) (ha' : a.toInt < 1000000) (hb : 0 ≤ b.toInt)
    (hb' : b.toInt < 1000000) : (IntOp.subi a b).toInt < 1000000 := by
  show (a - b).toInt < 1000000
  rw [BitVec.toInt_sub]
  rw [Int.bmod_eq_of_le (by omega) (by omega)]
  omega

/-- The two results at a place, for timestamps in range. -/
theorem result_eq (x0 : Vec Ideal ⟨2, ![1024, 200]⟩ .i32) (x1 : Vec Ideal ⟨2, ![129, 1]⟩ .f32)
    (x2 : Vec Ideal ⟨2, ![399, 1]⟩ .f32) (hx : ∀ z, 0 ≤ (x0 z).toInt ∧ (x0 z).toInt < 1000000)
    (y : Cert.ReferenceIdeal.S1024x1x200x200.Idx) :
    result x0 x1 x2 (y 0) (y 2) (y 3) = Cert.ReferenceIdeal.Read.val_main_v31 (F := Ideal) x0 x1 x2 y := by
  rw [reference_eq (F := Ideal) x0 x1 x2 y _ _ _ rfl rfl rfl]
  unfold result
  refine (congrArg₂ FloatOps.addf ?_ rfl).trans (add_comm (G := EReal) _ _)
  have hd := subi_lt _ _ (hx (ix2 (y 0) ⟨min ((y 2).val + 1) 199, by omega⟩)).1 (hx _).2 (hx (ix2 (y 0) (y 3))).1 (hx _).2
  rw [chain_eq _ (by decide), lastReached_bucket _ _ hd, ← clampWord_eq _ hd]
  exact extend_eq _ _ _

end Cert.Bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Every run of the reference leaves its arguments unchanged and every semaphore at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1)
        ∧ r.2.mem ((c.tc : Thread ReferenceIdeal.nD ReferenceIdeal.τ).loc ReferenceIdeal.main_arg2)
            = m ((c.tc : Thread ReferenceIdeal.nD ReferenceIdeal.τ).loc ReferenceIdeal.main_arg2))
        ∧ r.2.sem = fun _ => 0) :=
  (θ_run ReferenceIdeal.defs _ _).mono (fun r h => ⟨fun c => (h c).2, sem_eq_zero_of_no_sems (by decide) r.2⟩)
    (Cert.ReferenceIdeal.Value.run (F := Ideal) m g)

/-- For timestamps in range the kernel and the reference end with equal results, with exact arithmetic. -/
theorem equal_results : algebraic_KernelIdeal_ReferenceIdeal_pre_in_range := by
  intro m g m' g' hpre hargs
  refine ⟨fun c => fun y => Bias.result (F := Ideal) (m ((c : Thread KernelIdeal.nD KernelIdeal.τ).loc KernelIdeal.main_arg0))
      (m ((c : Thread KernelIdeal.nD KernelIdeal.τ).loc KernelIdeal.main_arg1))
      (m ((c : Thread KernelIdeal.nD KernelIdeal.τ).loc KernelIdeal.main_arg2)) (y 0) (y 2) (y 3),
    Bias.run_result (F := Ideal) m g, ?_⟩
  refine (θ_run ReferenceIdeal.defs _ _).mono (fun r h c => ⟨?_, (h c).2⟩) (Cert.ReferenceIdeal.Value.run (F := Ideal) m' g')
  obtain ⟨a0, a1, a2⟩ := hargs c
  refine ((h c).1.trans (Cert.ReferenceIdeal.Read.val_main_v31_eq (F := Ideal) m' c)).trans ?_
  rw [a0, a1, a2]
  exact funext fun y => (Bias.result_eq _ _ _ (Bias.times_in_range _ _ _ (hpre c)) y).symm

/-- Everything claimed: the three programs leave their arguments and semaphores as they found them, and the kernel's
    result is the reference's. -/
theorem claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, equal_results⟩

end Cert.Proof

end
